-- ==== Defs.lean ====
def Pre_Transform (m : (ℓ : Loc Cert.Transform.nD Cert.Transform.τ Cert.Transform.sig) → Buf (Elt Bits) ℓ) : Prop :=
  True

def Pre_TransformIdeal (m : (ℓ : Loc Cert.TransformIdeal.nD Cert.TransformIdeal.τ Cert.TransformIdeal.sig) → Buf (Elt Ideal) ℓ) : Prop :=
  True

def Pre_RefTransformIdeal (m : (ℓ : Loc Cert.RefTransformIdeal.nD Cert.RefTransformIdeal.τ Cert.RefTransformIdeal.sig) → Buf (Elt Ideal) ℓ) : Prop :=
  True

def Pre_Pool [hPre_docs_packed : Cert.Pre_docs_packed.Facts] (m : (ℓ : Loc Cert.Pool.nD Cert.Pool.τ Cert.Pool.sig) → Buf (Elt Bits) ℓ) : Prop :=
  ∀ c : Dev Cert.Pool.nD,
    (Cert.Pre_docs_packed.fn (F := Bits) (m ((c.tc : Thread Cert.Pool.nD Cert.Pool.τ).loc Cert.Pool.main_arg0)) (m ((c.tc : Thread Cert.Pool.nD Cert.Pool.τ).loc Cert.Pool.main_arg1)) (m ((c.tc : Thread Cert.Pool.nD Cert.Pool.τ).loc Cert.Pool.main_arg2)) (m ((c.tc : Thread Cert.Pool.nD Cert.Pool.τ).loc Cert.Pool.main_arg3)) (m ((c.tc : Thread Cert.Pool.nD Cert.Pool.τ).loc Cert.Pool.main_arg4)) (m ((c.tc : Thread Cert.Pool.nD Cert.Pool.τ).loc Cert.Pool.main_arg5))) = (fun _ => 1#1)

def Pre_PoolIdeal [hPre_docs_packed : Cert.Pre_docs_packed.Facts] (m : (ℓ : Loc Cert.PoolIdeal.nD Cert.PoolIdeal.τ Cert.PoolIdeal.sig) → Buf (Elt Ideal) ℓ) : Prop :=
  ∀ c : Dev Cert.PoolIdeal.nD,
    (Cert.Pre_docs_packed.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))) = (fun _ => 1#1)

def Pre_RefPoolIdeal (m : (ℓ : Loc Cert.RefPoolIdeal.nD Cert.RefPoolIdeal.τ Cert.RefPoolIdeal.sig) → Buf (Elt Ideal) ℓ) : Prop :=
  True

def Pre_RefPoolIdeal_docs_packed [hPre_docs_packed : Cert.Pre_docs_packed.Facts] (m : (ℓ : Loc Cert.RefPoolIdeal.nD Cert.RefPoolIdeal.τ Cert.RefPoolIdeal.sig) → Buf (Elt Ideal) ℓ) : Prop :=
  ∀ c : Dev Cert.RefPoolIdeal.nD,
    (Cert.Pre_docs_packed.fn (F := Ideal) (m ((c.tc : Thread Cert.RefPoolIdeal.nD Cert.RefPoolIdeal.τ).loc Cert.RefPoolIdeal.main_arg0)) (m ((c.tc : Thread Cert.RefPoolIdeal.nD Cert.RefPoolIdeal.τ).loc Cert.RefPoolIdeal.main_arg1)) (m ((c.tc : Thread Cert.RefPoolIdeal.nD Cert.RefPoolIdeal.τ).loc Cert.RefPoolIdeal.main_arg2)) (m ((c.tc : Thread Cert.RefPoolIdeal.nD Cert.RefPoolIdeal.τ).loc Cert.RefPoolIdeal.main_arg3)) (m ((c.tc : Thread Cert.RefPoolIdeal.nD Cert.RefPoolIdeal.τ).loc Cert.RefPoolIdeal.main_arg4)) (m ((c.tc : Thread Cert.RefPoolIdeal.nD Cert.RefPoolIdeal.τ).loc Cert.RefPoolIdeal.main_arg5))) = (fun _ => 1#1)

def quiescent_Transform [hTransform : Cert.Transform.Facts] : Prop :=
  ∀ (m : (ℓ : Loc Cert.Transform.nD Cert.Transform.τ Cert.Transform.sig) → Buf (Elt Bits) ℓ) (g : Dev Cert.Transform.nD → PrngReg), Pre_Transform m →
    θ_run (Cert.Transform.defs (F := Bits)) (onTc (τ := Cert.Transform.τ) (Cert.Transform.main (F := Bits))) ⟨m, fun _ => 0, g⟩ (fun r => (∀ c : Dev Cert.Transform.nD,
      r.2.mem ((c.tc : Thread Cert.Transform.nD Cert.Transform.τ).loc Cert.Transform.main_arg0) = m ((c.tc : Thread Cert.Transform.nD Cert.Transform.τ).loc Cert.Transform.main_arg0)
      ∧ r.2.mem ((c.tc : Thread Cert.Transform.nD Cert.Transform.τ).loc Cert.Transform.main_arg1) = m ((c.tc : Thread Cert.Transform.nD Cert.Transform.τ).loc Cert.Transform.main_arg1)
      ∧ r.2.mem ((c.tc : Thread Cert.Transform.nD Cert.Transform.τ).loc Cert.Transform.main_arg2) = m ((c.tc : Thread Cert.Transform.nD Cert.Transform.τ).loc Cert.Transform.main_arg2)
      ∧ r.2.mem ((c.tc : Thread Cert.Transform.nD Cert.Transform.τ).loc Cert.Transform.main_arg3) = m ((c.tc : Thread Cert.Transform.nD Cert.Transform.τ).loc Cert.Transform.main_arg3)
      ∧ r.2.mem ((c.tc : Thread Cert.Transform.nD Cert.Transform.τ).loc Cert.Transform.main_arg4) = m ((c.tc : Thread Cert.Transform.nD Cert.Transform.τ).loc Cert.Transform.main_arg4)
      ∧ r.2.mem ((c.tc : Thread Cert.Transform.nD Cert.Transform.τ).loc Cert.Transform.main_arg5) = m ((c.tc : Thread Cert.Transform.nD Cert.Transform.τ).loc Cert.Transform.main_arg5)
      ∧ r.2.mem ((c.tc : Thread Cert.Transform.nD Cert.Transform.τ).loc Cert.Transform.main_arg6) = m ((c.tc : Thread Cert.Transform.nD Cert.Transform.τ).loc Cert.Transform.main_arg6))
      ∧ r.2.sem = fun _ => 0)

def quiescent_TransformIdeal [hTransformIdeal : Cert.TransformIdeal.Facts] : Prop :=
  ∀ (m : (ℓ : Loc Cert.TransformIdeal.nD Cert.TransformIdeal.τ Cert.TransformIdeal.sig) → Buf (Elt Ideal) ℓ) (g : Dev Cert.TransformIdeal.nD → PrngReg), Pre_TransformIdeal m →
    θ_run (Cert.TransformIdeal.defs (F := Ideal)) (onTc (τ := Cert.TransformIdeal.τ) (Cert.TransformIdeal.main (F := Ideal))) ⟨m, fun _ => 0, g⟩ (fun r => (∀ c : Dev Cert.TransformIdeal.nD,
      r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
      ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
      ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4)
      ∧ r.2.mem ((c.tc : Thread Cert.TransformIdeal.nD Cert.TransformIdeal.τ).loc Cert.TransformIdeal.main_arg5) = m ((c.tc : Thread Cert.TransformIdeal.nD Cert.TransformIdeal.τ).loc Cert.TransformIdeal.main_arg5)
      ∧ r.2.mem ((c.tc : Thread Cert.TransformIdeal.nD Cert.TransformIdeal.τ).loc Cert.TransformIdeal.main_arg6) = m ((c.tc : Thread Cert.TransformIdeal.nD Cert.TransformIdeal.τ).loc Cert.TransformIdeal.main_arg6))
      ∧ r.2.sem = fun _ => 0)

def quiescent_RefTransformIdeal [hRefTransformIdeal : Cert.RefTransformIdeal.Facts] : Prop :=
  ∀ (m : (ℓ : Loc Cert.RefTransformIdeal.nD Cert.RefTransformIdeal.τ Cert.RefTransformIdeal.sig) → Buf (Elt Ideal) ℓ) (g : Dev Cert.RefTransformIdeal.nD → PrngReg), Pre_RefTransformIdeal m →
    θ_run (Cert.RefTransformIdeal.defs (F := Ideal)) (onTc (τ := Cert.RefTransformIdeal.τ) (Cert.RefTransformIdeal.main (F := Ideal))) ⟨m, fun _ => 0, g⟩ (fun r => (∀ c : Dev Cert.RefTransformIdeal.nD,
      r.2.mem ((c.tc : Thread Cert.RefTransformIdeal.nD Cert.RefTransformIdeal.τ).loc Cert.RefTransformIdeal.main_arg0) = m ((c.tc : Thread Cert.RefTransformIdeal.nD Cert.RefTransformIdeal.τ).loc Cert.RefTransformIdeal.main_arg0)
      ∧ r.2.mem ((c.tc : Thread Cert.RefTransformIdeal.nD Cert.RefTransformIdeal.τ).loc Cert.RefTransformIdeal.main_arg1) = m ((c.tc : Thread Cert.RefTransformIdeal.nD Cert.RefTransformIdeal.τ).loc Cert.RefTransformIdeal.main_arg1)
      ∧ r.2.mem ((c.tc : Thread Cert.RefTransformIdeal.nD Cert.RefTransformIdeal.τ).loc Cert.RefTransformIdeal.main_arg2) = m ((c.tc : Thread Cert.RefTransformIdeal.nD Cert.RefTransformIdeal.τ).loc Cert.RefTransformIdeal.main_arg2)
      ∧ r.2.mem ((c.tc : Thread Cert.RefTransformIdeal.nD Cert.RefTransformIdeal.τ).loc Cert.RefTransformIdeal.main_arg3) = m ((c.tc : Thread Cert.RefTransformIdeal.nD Cert.RefTransformIdeal.τ).loc Cert.RefTransformIdeal.main_arg3)
      ∧ r.2.mem ((c.tc : Thread Cert.RefTransformIdeal.nD Cert.RefTransformIdeal.τ).loc Cert.RefTransformIdeal.main_arg4) = m ((c.tc : Thread Cert.RefTransformIdeal.nD Cert.RefTransformIdeal.τ).loc Cert.RefTransformIdeal.main_arg4)
      ∧ r.2.mem ((c.tc : Thread Cert.RefTransformIdeal.nD Cert.RefTransformIdeal.τ).loc Cert.RefTransformIdeal.main_arg5) = m ((c.tc : Thread Cert.RefTransformIdeal.nD Cert.RefTransformIdeal.τ).loc Cert.RefTransformIdeal.main_arg5)
      ∧ r.2.mem ((c.tc : Thread Cert.RefTransformIdeal.nD Cert.RefTransformIdeal.τ).loc Cert.RefTransformIdeal.main_arg6) = m ((c.tc : Thread Cert.RefTransformIdeal.nD Cert.RefTransformIdeal.τ).loc Cert.RefTransformIdeal.main_arg6))
      ∧ r.2.sem = fun _ => 0)

def quiescent_Pool [hPool : Cert.Pool.Facts] [hPre_docs_packed : Cert.Pre_docs_packed.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] [hPre_docs_packed : Cert.Pre_docs_packed.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_RefPoolIdeal [hRefPoolIdeal : Cert.RefPoolIdeal.Facts] : Prop :=
  ∀ (m : (ℓ : Loc Cert.RefPoolIdeal.nD Cert.RefPoolIdeal.τ Cert.RefPoolIdeal.sig) → Buf (Elt Ideal) ℓ) (g : Dev Cert.RefPoolIdeal.nD → PrngReg), Pre_RefPoolIdeal m →
    θ_run (Cert.RefPoolIdeal.defs (F := Ideal)) (onTc (τ := Cert.RefPoolIdeal.τ) (Cert.RefPoolIdeal.main (F := Ideal))) ⟨m, fun _ => 0, g⟩ (fun r => (∀ c : Dev Cert.RefPoolIdeal.nD,
      r.2.mem ((c.tc : Thread Cert.RefPoolIdeal.nD Cert.RefPoolIdeal.τ).loc Cert.RefPoolIdeal.main_arg0) = m ((c.tc : Thread Cert.RefPoolIdeal.nD Cert.RefPoolIdeal.τ).loc Cert.RefPoolIdeal.main_arg0)
      ∧ r.2.mem ((c.tc : Thread Cert.RefPoolIdeal.nD Cert.RefPoolIdeal.τ).loc Cert.RefPoolIdeal.main_arg1) = m ((c.tc : Thread Cert.RefPoolIdeal.nD Cert.RefPoolIdeal.τ).loc Cert.RefPoolIdeal.main_arg1)
      ∧ r.2.mem ((c.tc : Thread Cert.RefPoolIdeal.nD Cert.RefPoolIdeal.τ).loc Cert.RefPoolIdeal.main_arg2) = m ((c.tc : Thread Cert.RefPoolIdeal.nD Cert.RefPoolIdeal.τ).loc Cert.RefPoolIdeal.main_arg2)
      ∧ r.2.mem ((c.tc : Thread Cert.RefPoolIdeal.nD Cert.RefPoolIdeal.τ).loc Cert.RefPoolIdeal.main_arg3) = m ((c.tc : Thread Cert.RefPoolIdeal.nD Cert.RefPoolIdeal.τ).loc Cert.RefPoolIdeal.main_arg3)
      ∧ r.2.mem ((c.tc : Thread Cert.RefPoolIdeal.nD Cert.RefPoolIdeal.τ).loc Cert.RefPoolIdeal.main_arg4) = m ((c.tc : Thread Cert.RefPoolIdeal.nD Cert.RefPoolIdeal.τ).loc Cert.RefPoolIdeal.main_arg4)
      ∧ r.2.mem ((c.tc : Thread Cert.RefPoolIdeal.nD Cert.RefPoolIdeal.τ).loc Cert.RefPoolIdeal.main_arg5) = m ((c.tc : Thread Cert.RefPoolIdeal.nD Cert.RefPoolIdeal.τ).loc Cert.RefPoolIdeal.main_arg5))
      ∧ r.2.sem = fun _ => 0)

def quiescent_RefPoolIdeal_pre_docs_packed [hRefPoolIdeal : Cert.RefPoolIdeal.Facts] [hPre_docs_packed : Cert.Pre_docs_packed.Facts] : Prop :=
  ∀ (m : (ℓ : Loc Cert.RefPoolIdeal.nD Cert.RefPoolIdeal.τ Cert.RefPoolIdeal.sig) → Buf (Elt Ideal) ℓ) (g : Dev Cert.RefPoolIdeal.nD → PrngReg), Pre_RefPoolIdeal_docs_packed m →
    θ_run (Cert.RefPoolIdeal.defs (F := Ideal)) (onTc (τ := Cert.RefPoolIdeal.τ) (Cert.RefPoolIdeal.main (F := Ideal))) ⟨m, fun _ => 0, g⟩ (fun r => (∀ c : Dev Cert.RefPoolIdeal.nD,
      r.2.mem ((c.tc : Thread Cert.RefPoolIdeal.nD Cert.RefPoolIdeal.τ).loc Cert.RefPoolIdeal.main_arg0) = m ((c.tc : Thread Cert.RefPoolIdeal.nD Cert.RefPoolIdeal.τ).loc Cert.RefPoolIdeal.main_arg0)
      ∧ r.2.mem ((c.tc : Thread Cert.RefPoolIdeal.nD Cert.RefPoolIdeal.τ).loc Cert.RefPoolIdeal.main_arg1) = m ((c.tc : Thread Cert.RefPoolIdeal.nD Cert.RefPoolIdeal.τ).loc Cert.RefPoolIdeal.main_arg1)
      ∧ r.2.mem ((c.tc : Thread Cert.RefPoolIdeal.nD Cert.RefPoolIdeal.τ).loc Cert.RefPoolIdeal.main_arg2) = m ((c.tc : Thread Cert.RefPoolIdeal.nD Cert.RefPoolIdeal.τ).loc Cert.RefPoolIdeal.main_arg2)
      ∧ r.2.mem ((c.tc : Thread Cert.RefPoolIdeal.nD Cert.RefPoolIdeal.τ).loc Cert.RefPoolIdeal.main_arg3) = m ((c.tc : Thread Cert.RefPoolIdeal.nD Cert.RefPoolIdeal.τ).loc Cert.RefPoolIdeal.main_arg3)
      ∧ r.2.mem ((c.tc : Thread Cert.RefPoolIdeal.nD Cert.RefPoolIdeal.τ).loc Cert.RefPoolIdeal.main_arg4) = m ((c.tc : Thread Cert.RefPoolIdeal.nD Cert.RefPoolIdeal.τ).loc Cert.RefPoolIdeal.main_arg4)
      ∧ r.2.mem ((c.tc : Thread Cert.RefPoolIdeal.nD Cert.RefPoolIdeal.τ).loc Cert.RefPoolIdeal.main_arg5) = m ((c.tc : Thread Cert.RefPoolIdeal.nD Cert.RefPoolIdeal.τ).loc Cert.RefPoolIdeal.main_arg5))
      ∧ r.2.sem = fun _ => 0)

def preserves_Transform_TransformIdeal : Prop :=
  True

def algebraic_TransformIdeal_RefTransformIdeal [hTransformIdeal : Cert.TransformIdeal.Facts] [hRefTransformIdeal : Cert.RefTransformIdeal.Facts] : Prop :=
  ∀ (m : (ℓ : Loc Cert.TransformIdeal.nD Cert.TransformIdeal.τ Cert.TransformIdeal.sig) → Buf (Elt Ideal) ℓ) (g : Dev Cert.TransformIdeal.nD → PrngReg)
    (m' : (ℓ : Loc Cert.RefTransformIdeal.nD Cert.RefTransformIdeal.τ Cert.RefTransformIdeal.sig) → Buf (Elt Ideal) ℓ) (g' : Dev Cert.RefTransformIdeal.nD → PrngReg), Pre_TransformIdeal m →
    (∀ c : Dev Cert.TransformIdeal.nD,
      m' ((c.tc : Thread Cert.RefTransformIdeal.nD Cert.RefTransformIdeal.τ).loc Cert.RefTransformIdeal.main_arg0) = m ((c.tc : Thread Cert.TransformIdeal.nD Cert.TransformIdeal.τ).loc Cert.TransformIdeal.main_arg0)
      ∧ m' ((c.tc : Thread Cert.RefTransformIdeal.nD Cert.RefTransformIdeal.τ).loc Cert.RefTransformIdeal.main_arg1) = m ((c.tc : Thread Cert.TransformIdeal.nD Cert.TransformIdeal.τ).loc Cert.TransformIdeal.main_arg1)
      ∧ m' ((c.tc : Thread Cert.RefTransformIdeal.nD Cert.RefTransformIdeal.τ).loc Cert.RefTransformIdeal.main_arg2) = m ((c.tc : Thread Cert.TransformIdeal.nD Cert.TransformIdeal.τ).loc Cert.TransformIdeal.main_arg2)
      ∧ m' ((c.tc : Thread Cert.RefTransformIdeal.nD Cert.RefTransformIdeal.τ).loc Cert.RefTransformIdeal.main_arg3) = m ((c.tc : Thread Cert.TransformIdeal.nD Cert.TransformIdeal.τ).loc Cert.TransformIdeal.main_arg3)
      ∧ m' ((c.tc : Thread Cert.RefTransformIdeal.nD Cert.RefTransformIdeal.τ).loc Cert.RefTransformIdeal.main_arg4) = m ((c.tc : Thread Cert.TransformIdeal.nD Cert.TransformIdeal.τ).loc Cert.TransformIdeal.main_arg4)
      ∧ m' ((c.tc : Thread Cert.RefTransformIdeal.nD Cert.RefTransformIdeal.τ).loc Cert.RefTransformIdeal.main_arg5) = m ((c.tc : Thread Cert.TransformIdeal.nD Cert.TransformIdeal.τ).loc Cert.TransformIdeal.main_arg5)
      ∧ m' ((c.tc : Thread Cert.RefTransformIdeal.nD Cert.RefTransformIdeal.τ).loc Cert.RefTransformIdeal.main_arg6) = m ((c.tc : Thread Cert.TransformIdeal.nD Cert.TransformIdeal.τ).loc Cert.TransformIdeal.main_arg6)) →
    ∃ (v0 : (c : Dev Cert.TransformIdeal.nD) → Buf (Elt Ideal) ((c.tc : Thread Cert.TransformIdeal.nD Cert.TransformIdeal.τ).loc Cert.TransformIdeal.main_v5_0)) (v1 : (c : Dev Cert.TransformIdeal.nD) → Buf (Elt Ideal) ((c.tc : Thread Cert.TransformIdeal.nD Cert.TransformIdeal.τ).loc Cert.TransformIdeal.main_v5_1)),
      θ_run (Cert.TransformIdeal.defs (F := Ideal)) (onTc (τ := Cert.TransformIdeal.τ) (Cert.TransformIdeal.main (F := Ideal))) ⟨m, fun _ => 0, g⟩ (fun r => ∀ c : Dev Cert.TransformIdeal.nD,
          r.2.mem ((c.tc : Thread Cert.TransformIdeal.nD Cert.TransformIdeal.τ).loc Cert.TransformIdeal.main_v5_0) = v0 c
          ∧ r.2.mem ((c.tc : Thread Cert.TransformIdeal.nD Cert.TransformIdeal.τ).loc Cert.TransformIdeal.main_v5_1) = v1 c
          ∧ r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
          ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
          ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
          ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
          ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4)
          ∧ r.2.mem ((c.tc : Thread Cert.TransformIdeal.nD Cert.TransformIdeal.τ).loc Cert.TransformIdeal.main_arg5) = m ((c.tc : Thread Cert.TransformIdeal.nD Cert.TransformIdeal.τ).loc Cert.TransformIdeal.main_arg5)
          ∧ r.2.mem ((c.tc : Thread Cert.TransformIdeal.nD Cert.TransformIdeal.τ).loc Cert.TransformIdeal.main_arg6) = m ((c.tc : Thread Cert.TransformIdeal.nD Cert.TransformIdeal.τ).loc Cert.TransformIdeal.main_arg6))
      ∧ θ_run (Cert.RefTransformIdeal.defs (F := Ideal)) (onTc (τ := Cert.RefTransformIdeal.τ) (Cert.RefTransformIdeal.main (F := Ideal))) ⟨m', fun _ => 0, g'⟩ (fun r => ∀ c : Dev Cert.RefTransformIdeal.nD,
          r.2.mem ((c.tc : Thread Cert.RefTransformIdeal.nD Cert.RefTransformIdeal.τ).loc Cert.RefTransformIdeal.main_v0_0) = v0 c
          ∧ r.2.mem ((c.tc : Thread Cert.RefTransformIdeal.nD Cert.RefTransformIdeal.τ).loc Cert.RefTransformIdeal.main_v0_1) = v1 c
          ∧ r.2.mem ((c.tc : Thread Cert.RefTransformIdeal.nD Cert.RefTransformIdeal.τ).loc Cert.RefTransformIdeal.main_arg0) = m' ((c.tc : Thread Cert.RefTransformIdeal.nD Cert.RefTransformIdeal.τ).loc Cert.RefTransformIdeal.main_arg0)
          ∧ r.2.mem ((c.tc : Thread Cert.RefTransformIdeal.nD Cert.RefTransformIdeal.τ).loc Cert.RefTransformIdeal.main_arg1) = m' ((c.tc : Thread Cert.RefTransformIdeal.nD Cert.RefTransformIdeal.τ).loc Cert.RefTransformIdeal.main_arg1)
          ∧ r.2.mem ((c.tc : Thread Cert.RefTransformIdeal.nD Cert.RefTransformIdeal.τ).loc Cert.RefTransformIdeal.main_arg2) = m' ((c.tc : Thread Cert.RefTransformIdeal.nD Cert.RefTransformIdeal.τ).loc Cert.RefTransformIdeal.main_arg2)
          ∧ r.2.mem ((c.tc : Thread Cert.RefTransformIdeal.nD Cert.RefTransformIdeal.τ).loc Cert.RefTransformIdeal.main_arg3) = m' ((c.tc : Thread Cert.RefTransformIdeal.nD Cert.RefTransformIdeal.τ).loc Cert.RefTransformIdeal.main_arg3)
          ∧ r.2.mem ((c.tc : Thread Cert.RefTransformIdeal.nD Cert.RefTransformIdeal.τ).loc Cert.RefTransformIdeal.main_arg4) = m' ((c.tc : Thread Cert.RefTransformIdeal.nD Cert.RefTransformIdeal.τ).loc Cert.RefTransformIdeal.main_arg4)
          ∧ r.2.mem ((c.tc : Thread Cert.RefTransformIdeal.nD Cert.RefTransformIdeal.τ).loc Cert.RefTransformIdeal.main_arg5) = m' ((c.tc : Thread Cert.RefTransformIdeal.nD Cert.RefTransformIdeal.τ).loc Cert.RefTransformIdeal.main_arg5)
          ∧ r.2.mem ((c.tc : Thread Cert.RefTransformIdeal.nD Cert.RefTransformIdeal.τ).loc Cert.RefTransformIdeal.main_arg6) = m' ((c.tc : Thread Cert.RefTransformIdeal.nD Cert.RefTransformIdeal.τ).loc Cert.RefTransformIdeal.main_arg6))

def preserves_Pool_PoolIdeal : Prop :=
  IdealRules.named_const.Statement Cert.PoolIdeal.κ "inv_n" .f32 0x3DAAAAAB#32 ((1 / 12 : ℝ) : EReal)

def algebraic_PoolIdeal_RefPoolIdeal [hPoolIdeal : Cert.PoolIdeal.Facts] [hRefPoolIdeal : Cert.RefPoolIdeal.Facts] [hPre_docs_packed : Cert.Pre_docs_packed.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.RefPoolIdeal.nD Cert.RefPoolIdeal.τ Cert.RefPoolIdeal.sig) → Buf (Elt Ideal) ℓ) (g' : Dev Cert.RefPoolIdeal.nD → PrngReg), Pre_PoolIdeal m →
    (∀ c : Dev Cert.PoolIdeal.nD,
      m' ((c.tc : Thread Cert.RefPoolIdeal.nD Cert.RefPoolIdeal.τ).loc Cert.RefPoolIdeal.main_arg0) = m ((c.tc : Thread Cert.PoolIdeal.nD Cert.PoolIdeal.τ).loc Cert.PoolIdeal.main_arg0)
      ∧ m' ((c.tc : Thread Cert.RefPoolIdeal.nD Cert.RefPoolIdeal.τ).loc Cert.RefPoolIdeal.main_arg1) = m ((c.tc : Thread Cert.PoolIdeal.nD Cert.PoolIdeal.τ).loc Cert.PoolIdeal.main_arg1)
      ∧ m' ((c.tc : Thread Cert.RefPoolIdeal.nD Cert.RefPoolIdeal.τ).loc Cert.RefPoolIdeal.main_arg2) = m ((c.tc : Thread Cert.PoolIdeal.nD Cert.PoolIdeal.τ).loc Cert.PoolIdeal.main_arg2)
      ∧ m' ((c.tc : Thread Cert.RefPoolIdeal.nD Cert.RefPoolIdeal.τ).loc Cert.RefPoolIdeal.main_arg3) = m ((c.tc : Thread Cert.PoolIdeal.nD Cert.PoolIdeal.τ).loc Cert.PoolIdeal.main_arg3)
      ∧ m' ((c.tc : Thread Cert.RefPoolIdeal.nD Cert.RefPoolIdeal.τ).loc Cert.RefPoolIdeal.main_arg4) = m ((c.tc : Thread Cert.PoolIdeal.nD Cert.PoolIdeal.τ).loc Cert.PoolIdeal.main_arg4)
      ∧ m' ((c.tc : Thread Cert.RefPoolIdeal.nD Cert.RefPoolIdeal.τ).loc Cert.RefPoolIdeal.main_arg5) = m ((c.tc : Thread Cert.PoolIdeal.nD Cert.PoolIdeal.τ).loc Cert.PoolIdeal.main_arg5)) →
    ∃ (v0 : (c : Dev Cert.PoolIdeal.nD) → Buf (Elt Ideal) ((c.tc : Thread Cert.PoolIdeal.nD Cert.PoolIdeal.τ).loc Cert.PoolIdeal.main_v4_0)) (v1 : (c : Dev Cert.PoolIdeal.nD) → Buf (Elt Ideal) ((c.tc : Thread Cert.PoolIdeal.nD Cert.PoolIdeal.τ).loc Cert.PoolIdeal.main_v4_1)) (v2 : (c : Dev Cert.PoolIdeal.nD) → Buf (Elt Ideal) ((c.tc : Thread Cert.PoolIdeal.nD Cert.PoolIdeal.τ).loc Cert.PoolIdeal.main_v4_2)) (v3 : (c : Dev Cert.PoolIdeal.nD) → Buf (Elt Ideal) ((c.tc : Thread Cert.PoolIdeal.nD Cert.PoolIdeal.τ).loc Cert.PoolIdeal.main_v4_3)) (v4 : (c : Dev Cert.PoolIdeal.nD) → Buf (Elt Ideal) ((c.tc : Thread Cert.PoolIdeal.nD Cert.PoolIdeal.τ).loc Cert.PoolIdeal.main_v4_4)) (v5 : (c : Dev Cert.PoolIdeal.nD) → Buf (Elt Ideal) ((c.tc : Thread Cert.PoolIdeal.nD Cert.PoolIdeal.τ).loc Cert.PoolIdeal.main_v4_5)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4_0) = v0 c
          ∧ r.2.mem ((c.tc : Thread Cert.PoolIdeal.nD Cert.PoolIdeal.τ).loc Cert.PoolIdeal.main_v4_1) = v1 c
          ∧ r.2.mem ((c.tc : Thread Cert.PoolIdeal.nD Cert.PoolIdeal.τ).loc Cert.PoolIdeal.main_v4_2) = v2 c
          ∧ r.2.mem ((c.tc : Thread Cert.PoolIdeal.nD Cert.PoolIdeal.τ).loc Cert.PoolIdeal.main_v4_3) = v3 c
          ∧ r.2.mem ((c.tc : Thread Cert.PoolIdeal.nD Cert.PoolIdeal.τ).loc Cert.PoolIdeal.main_v4_4) = v4 c
          ∧ r.2.mem ((c.tc : Thread Cert.PoolIdeal.nD Cert.PoolIdeal.τ).loc Cert.PoolIdeal.main_v4_5) = v5 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ θ_run (Cert.RefPoolIdeal.defs (F := Ideal)) (onTc (τ := Cert.RefPoolIdeal.τ) (Cert.RefPoolIdeal.main (F := Ideal))) ⟨m', fun _ => 0, g'⟩ (fun r => ∀ c : Dev Cert.RefPoolIdeal.nD,
          r.2.mem ((c.tc : Thread Cert.RefPoolIdeal.nD Cert.RefPoolIdeal.τ).loc Cert.RefPoolIdeal.main_v0_0) = v0 c
          ∧ r.2.mem ((c.tc : Thread Cert.RefPoolIdeal.nD Cert.RefPoolIdeal.τ).loc Cert.RefPoolIdeal.main_v0_1) = v1 c
          ∧ r.2.mem ((c.tc : Thread Cert.RefPoolIdeal.nD Cert.RefPoolIdeal.τ).loc Cert.RefPoolIdeal.main_v0_2) = v2 c
          ∧ r.2.mem ((c.tc : Thread Cert.RefPoolIdeal.nD Cert.RefPoolIdeal.τ).loc Cert.RefPoolIdeal.main_v0_3) = v3 c
          ∧ r.2.mem ((c.tc : Thread Cert.RefPoolIdeal.nD Cert.RefPoolIdeal.τ).loc Cert.RefPoolIdeal.main_v0_4) = v4 c
          ∧ r.2.mem ((c.tc : Thread Cert.RefPoolIdeal.nD Cert.RefPoolIdeal.τ).loc Cert.RefPoolIdeal.main_v0_5) = v5 c
          ∧ r.2.mem ((c.tc : Thread Cert.RefPoolIdeal.nD Cert.RefPoolIdeal.τ).loc Cert.RefPoolIdeal.main_arg0) = m' ((c.tc : Thread Cert.RefPoolIdeal.nD Cert.RefPoolIdeal.τ).loc Cert.RefPoolIdeal.main_arg0)
          ∧ r.2.mem ((c.tc : Thread Cert.RefPoolIdeal.nD Cert.RefPoolIdeal.τ).loc Cert.RefPoolIdeal.main_arg1) = m' ((c.tc : Thread Cert.RefPoolIdeal.nD Cert.RefPoolIdeal.τ).loc Cert.RefPoolIdeal.main_arg1)
          ∧ r.2.mem ((c.tc : Thread Cert.RefPoolIdeal.nD Cert.RefPoolIdeal.τ).loc Cert.RefPoolIdeal.main_arg2) = m' ((c.tc : Thread Cert.RefPoolIdeal.nD Cert.RefPoolIdeal.τ).loc Cert.RefPoolIdeal.main_arg2)
          ∧ r.2.mem ((c.tc : Thread Cert.RefPoolIdeal.nD Cert.RefPoolIdeal.τ).loc Cert.RefPoolIdeal.main_arg3) = m' ((c.tc : Thread Cert.RefPoolIdeal.nD Cert.RefPoolIdeal.τ).loc Cert.RefPoolIdeal.main_arg3)
          ∧ r.2.mem ((c.tc : Thread Cert.RefPoolIdeal.nD Cert.RefPoolIdeal.τ).loc Cert.RefPoolIdeal.main_arg4) = m' ((c.tc : Thread Cert.RefPoolIdeal.nD Cert.RefPoolIdeal.τ).loc Cert.RefPoolIdeal.main_arg4)
          ∧ r.2.mem ((c.tc : Thread Cert.RefPoolIdeal.nD Cert.RefPoolIdeal.τ).loc Cert.RefPoolIdeal.main_arg5) = m' ((c.tc : Thread Cert.RefPoolIdeal.nD Cert.RefPoolIdeal.τ).loc Cert.RefPoolIdeal.main_arg5))

def Claim : Prop :=
  ∃ (hTransform : Cert.Transform.Facts) (hTransformIdeal : Cert.TransformIdeal.Facts) (hRefTransformIdeal : Cert.RefTransformIdeal.Facts) (hPool : Cert.Pool.Facts) (hPoolIdeal : Cert.PoolIdeal.Facts) (hRefPoolIdeal : Cert.RefPoolIdeal.Facts) (hPre_docs_packed : Cert.Pre_docs_packed.Facts),
    quiescent_Transform (hTransform := hTransform)
    ∧ quiescent_TransformIdeal (hTransformIdeal := hTransformIdeal)
    ∧ quiescent_RefTransformIdeal (hRefTransformIdeal := hRefTransformIdeal)
    ∧ quiescent_Pool (hPool := hPool) (hPre_docs_packed := hPre_docs_packed)
    ∧ quiescent_PoolIdeal (hPoolIdeal := hPoolIdeal) (hPre_docs_packed := hPre_docs_packed)
    ∧ quiescent_RefPoolIdeal (hRefPoolIdeal := hRefPoolIdeal)
    ∧ quiescent_RefPoolIdeal_pre_docs_packed (hRefPoolIdeal := hRefPoolIdeal) (hPre_docs_packed := hPre_docs_packed)
    ∧ preserves_Transform_TransformIdeal
    ∧ algebraic_TransformIdeal_RefTransformIdeal (hTransformIdeal := hTransformIdeal) (hRefTransformIdeal := hRefTransformIdeal)
    ∧ preserves_Pool_PoolIdeal
    ∧ algebraic_PoolIdeal_RefPoolIdeal (hPoolIdeal := hPoolIdeal) (hRefPoolIdeal := hRefPoolIdeal) (hPre_docs_packed := hPre_docs_packed)
-- ==== Pre_docs_packed.lean ====
abbrev S13 : Shape := ⟨1, ![13]⟩
abbrev S1536x1024 : Shape := ⟨2, ![1536, 1024]⟩
abbrev S1536x1 : Shape := ⟨2, ![1536, 1]⟩
abbrev S50368x1024 : Shape := ⟨2, ![50368, 1024]⟩
abbrev S50368 : Shape := ⟨1, ![50368]⟩
abbrev S12 : Shape := ⟨1, ![12]⟩
abbrev S_ : Shape := ⟨0, ![]⟩

class Facts : Prop where
  slices_S13_S12_0 : S13.Slices ![0] S12
  slices_S13_S12_1 : S13.Slices ![1] S12
  bcast_S_S12 : S_.BroadcastsInDim S12 (![] : Fin 0 → Fin S12.rank)

variable [Facts]

def fn {F : FTy → Type} [FloatOps F] (main_arg0 : IVec S13 32) (main_arg1 : FVec F S1536x1024 .fp8e4m3) (main_arg2 : FVec F S1536x1 .f32) (main_arg3 : FVec F S50368x1024 .fp8e4m3) (main_arg4 : FVec F S50368 .f32) (main_arg5 : FVec F S50368 .f32) : IVec S12 1 :=
  let main_v0 : IVec S12 32 := (extractStridedSlice S12 ![0] · slices_S13_S12_0) main_arg0
  let main_v1 : IVec S12 32 := (extractStridedSlice S12 ![1] · slices_S13_S12_1) main_arg0
  let main_c : IVec S_ 32 := constantI S_ 32 0#32
  let main_v2 : IVec S12 32 := broadcastInDim S12 ![] bcast_S_S12 main_c
  let main_v3 : IVec S12 1 := cmpi .sge main_v0 main_v2
  let main_v4 : IVec S12 1 := cmpi .sle main_v0 main_v1
  let main_v5 : IVec S12 1 := andi main_v3 main_v4
  let main_c_0 : IVec S_ 32 := constantI S_ 32 896#32
  let main_v6 : IVec S12 32 := broadcastInDim S12 ![] bcast_S_S12 main_c_0
  let main_v7 : IVec S12 1 := cmpi .sle main_v1 main_v6
  let main_v8 : IVec S12 1 := andi main_v5 main_v7
  main_v8
-- ==== Transform.lean ====
abbrev S1536x1024 : Shape := ⟨2, ![1536, 1024]⟩
abbrev S1536 : Shape := ⟨1, ![1536]⟩
abbrev S1024x1024 : Shape := ⟨2, ![1024, 1024]⟩
abbrev S1024 : Shape := ⟨1, ![1024]⟩
abbrev S1536x1 : Shape := ⟨2, ![1536, 1]⟩
abbrev S1x1024 : Shape := ⟨2, ![1, 1024]⟩
abbrev S256x1024 : Shape := ⟨2, ![256, 1024]⟩
abbrev S256x1 : Shape := ⟨2, ![256, 1]⟩
abbrev S256 : Shape := ⟨1, ![256]⟩

abbrev nBuf : Space → Nat
  | .hbm => 14
  | .vmem => 13
  | .smem => 0
  | _ => 0

abbrev bufTy : (tb : Table) → Fin (tcTables nBuf tb) → BufTy
  | .hbm, ⟨0, _⟩ => ⟨S1536x1024, .fp8e4m3⟩
  | .hbm, ⟨1, _⟩ => ⟨S1536, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1536x1, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1536x1024, .fp8e4m3⟩
  | .hbm, ⟨13, _⟩ => ⟨S1536x1, .f32⟩
  | .local _ .vmem, ⟨0, _⟩ => ⟨S256x1024, .fp8e4m3⟩
  | .local _ .vmem, ⟨1, _⟩ => ⟨S256x1024, .fp8e4m3⟩
  | .local _ .vmem, ⟨2, _⟩ => ⟨S1024x1024, .fp8e4m3⟩
  | .local _ .vmem, ⟨3, _⟩ => ⟨S256x1, .f32⟩
  | .local _ .vmem, ⟨4, _⟩ => ⟨S256x1, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .fp8e4m3⟩
  | .local _ .vmem, ⟨10, _⟩ => ⟨S256x1024, .fp8e4m3⟩
  | .local _ .vmem, ⟨11, _⟩ => ⟨S256x1, .f32⟩
  | .local _ .vmem, ⟨12, _⟩ => ⟨S256x1, .f32⟩
  | _, _ => ⟨S1536x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefTransformIdeal.lean ====
abbrev S1536x1024 : Shape := ⟨2, ![1536, 1024]⟩
abbrev S1536 : Shape := ⟨1, ![1536]⟩
abbrev S1024x1024 : Shape := ⟨2, ![1024, 1024]⟩
abbrev S1024 : Shape := ⟨1, ![1024]⟩
abbrev S1536x1 : Shape := ⟨2, ![1536, 1]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1536x1024, .fp8e4m3⟩
  | .hbm, ⟨1, _⟩ => ⟨S1536, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1536x1024, .fp8e4m3⟩
  | .hbm, ⟨8, _⟩ => ⟨S1536x1, .f32⟩
  | .local _ .vmem, ⟨0, _⟩ => ⟨S1536x1024, .fp8e4m3⟩
  | .local _ .vmem, ⟨1, _⟩ => ⟨S1536, .f32⟩
  | .local _ .vmem, ⟨2, _⟩ => ⟨S1024x1024, .fp8e4m3⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1536x1024, .fp8e4m3⟩
  | .local _ .vmem, ⟨8, _⟩ => ⟨S1536x1, .f32⟩
  | _, _ => ⟨S1536x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Pool.lean ====
abbrev S13 : Shape := ⟨1, ![13]⟩
abbrev S1536x1024 : Shape := ⟨2, ![1536, 1024]⟩
abbrev S1536x1 : Shape := ⟨2, ![1536, 1]⟩
abbrev S50368x1024 : Shape := ⟨2, ![50368, 1024]⟩
abbrev S50368 : Shape := ⟨1, ![50368]⟩
abbrev S1x50368 : Shape := ⟨2, ![1, 50368]⟩
abbrev S_ : Shape := ⟨0, ![]⟩
abbrev S1x50688 : Shape := ⟨2, ![1, 50688]⟩
abbrev S12x50368 : Shape := ⟨2, ![12, 50368]⟩
abbrev S1x12 : Shape := ⟨2, ![1, 12]⟩
abbrev S1x1 : Shape := ⟨2, ![1, 1]⟩
abbrev S512x1024 : Shape := ⟨2, ![512, 1024]⟩
abbrev S16x50688 : Shape := ⟨2, ![16, 50688]⟩
abbrev S4x904x128 : Shape := ⟨3, ![4, 904, 128]⟩
abbrev S1536x128 : Shape := ⟨2, ![1536, 128]⟩
abbrev S1544x128 : Shape := ⟨2, ![1544, 128]⟩
abbrev S16x512 : Shape := ⟨2, ![16, 512]⟩
abbrev S1x512 : Shape := ⟨2, ![1, 512]⟩
abbrev S8x128 : Shape := ⟨2, ![8, 128]⟩
abbrev S1 : Shape := ⟨1, ![1]⟩
abbrev S1x128 : Shape := ⟨2, ![1, 128]⟩
abbrev S896x1024 : Shape := ⟨2, ![896, 1024]⟩
abbrev S896x512 : Shape := ⟨2, ![896, 512]⟩
abbrev S1x8x128 : Shape := ⟨3, ![1, 8, 128]⟩
abbrev S128 : Shape := ⟨1, ![128]⟩
abbrev S4x128 : Shape := ⟨2, ![4, 128]⟩
abbrev S16x128 : Shape := ⟨2, ![16, 128]⟩
abbrev S512 : Shape := ⟨1, ![512]⟩
abbrev S16 : Shape := ⟨1, ![16]⟩
abbrev S16x1 : Shape := ⟨2, ![16, 1]⟩
abbrev S12 : Shape := ⟨1, ![12]⟩
abbrev S12x1 : Shape := ⟨2, ![12, 1]⟩
abbrev S12x128 : Shape := ⟨2, ![12, 128]⟩

abbrev nBuf : Space → Nat
  | .hbm => 20
  | .vmem => 19
  | .smem => 1
  | _ => 0

abbrev bufTy : (tb : Table) → Fin (tcTables nBuf tb) → BufTy
  | .hbm, ⟨0, _⟩ => ⟨S13, .i32⟩
  | .hbm, ⟨1, _⟩ => ⟨S1536x1024, .fp8e4m3⟩
  | .hbm, ⟨2, _⟩ => ⟨S1536x1, .f32⟩
  | .hbm, ⟨3, _⟩ => ⟨S50368x1024, .fp8e4m3⟩
  | .hbm, ⟨4, _⟩ => ⟨S50368, .f32⟩
  | .hbm, ⟨5, _⟩ => ⟨S50368, .f32⟩
  | .hbm, ⟨6, _⟩ => ⟨S1x50368, .f32⟩
  | .hbm, ⟨7, _⟩ => ⟨S_, .i32⟩
  | .hbm, ⟨8, _⟩ => ⟨S_, .f32⟩
  | .hbm, ⟨9, _⟩ => ⟨S1x50688, .f32⟩
  | .hbm, ⟨10, _⟩ => ⟨S1x50368, .f32⟩
  | .hbm, ⟨11, _⟩ => ⟨S_, .i32⟩
  | .hbm, ⟨12, _⟩ => ⟨S_, .f32⟩
  | .hbm, ⟨13, _⟩ => ⟨S1x50688, .f32⟩
  | .hbm, ⟨14, _⟩ => ⟨S12x50368, .f32⟩
  | .hbm, ⟨15, _⟩ => ⟨S1x12, .f32⟩
  | .hbm, ⟨16, _⟩ => ⟨S1x50368, .f32⟩
  | .hbm, ⟨17, _⟩ => ⟨S1x1, .f32⟩
  | .hbm, ⟨18, _⟩ => ⟨S12x50368, .i8⟩
  | .hbm, ⟨19, _⟩ => ⟨S1x12, .f32⟩
  | .local _ .vmem, ⟨0, _⟩ => ⟨S1536x1024, .fp8e4m3⟩
  | .local _ .vmem, ⟨1, _⟩ => ⟨S1536x1, .f32⟩
  | .local _ .vmem, ⟨2, _⟩ => ⟨S512x1024, .fp8e4m3⟩
  | .local _ .vmem, ⟨3, _⟩ => ⟨S512x1024, .fp8e4m3⟩
  | .local _ .vmem, ⟨4, _⟩ => ⟨S1x50688, .f32⟩
  | .local _ .vmem, ⟨5, _⟩ => ⟨S1x50688, .f32⟩
  | .local _ .vmem, ⟨6, _⟩ => ⟨S12x50368, .f32⟩
  | .local _ .vmem, ⟨7, _⟩ => ⟨S1x12, .f32⟩
  | .local _ .vmem, ⟨8, _⟩ => ⟨S1x50368, .f32⟩
  | .local _ .vmem, ⟨9, _⟩ => ⟨S1x1, .f32⟩
  | .local _ .vmem, ⟨10, _⟩ => ⟨S12x50368, .i8⟩
  | .local _ .vmem, ⟨11, _⟩ => ⟨S1x12, .f32⟩
  | .local _ .vmem, ⟨12, _⟩ => ⟨S16x50688, .f32⟩
  | .local _ .vmem, ⟨13, _⟩ => ⟨S1x50688, .f32⟩
  | .local _ .vmem, ⟨14, _⟩ => ⟨S4x904x128, .f32⟩
  | .local _ .vmem, ⟨15, _⟩ => ⟨S1536x128, .f32⟩
  | .local _ .vmem, ⟨16, _⟩ => ⟨S1544x128, .f32⟩
  | .local _ .vmem, ⟨17, _⟩ => ⟨S16x512, .f32⟩
  | .local _ .vmem, ⟨18, _⟩ => ⟨S1x512, .f32⟩
  | .local _ .smem, ⟨0, _⟩ => ⟨S13, .i32⟩
  | _, _ => ⟨S13, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![99], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v4974 : BitVec 32) : Fin 2 → Nat :=
  let v4975 : Index := Scalar.indexCast v4974
  let c0_2046 : Index := 0#32
  ![v4975.toNat, 0]

def k0_chk1 (i : grid0.Coords) (v4974 : BitVec 32) : Prop :=
  (∀ (k0_h1 : k0_cond1 i = 1#1), ∀ a, (k0_off1 v4974) a + S8x128.size a ≤ S1544x128.size a)
theorem k0_off1_inb : ∀ (i : grid0.Coords) (v4974 : BitVec 32) (k0_hw1 : k0_chk1 i v4974), ∀ (k0_h1 : k0_cond1 i = 1#1), ∀ a, (k0_off1 v4974) a + S8x128.size a ≤ S1544x128.size a := fun i v4974 k0_hw1 k0_h1 => k0_hw1 k0_h1

def k0_off2 (v4980 : BitVec 32) : Fin 2 → Nat :=
  let v4981 : Index := Scalar.indexCast v4980
  let c0_2048 : Index := 0#32
  ![v4981.toNat, 0]

def k0_chk2 (i : grid0.Coords) (v4980 : BitVec 32) : Prop :=
  (∀ (k0_h1 : k0_cond1 i = 1#1), ∀ a, (k0_off2 v4980) a + S8x128.size a ≤ S1544x128.size a)
theorem k0_off2_inb : ∀ (i : grid0.Coords) (v4980 : BitVec 32) (k0_hw2 : k0_chk2 i v4980), ∀ (k0_h1 : k0_cond1 i = 1#1), ∀ a, (k0_off2 v4980) a + S8x128.size a ≤ S1544x128.size a := fun i v4980 k0_hw2 k0_h1 => k0_hw2 k0_h1

def k0_off3 (v4986 : BitVec 32) : Fin 2 → Nat :=
  let v4987 : Index := Scalar.indexCast v4986
  let c0_2050 : Index := 0#32
  ![v4987.toNat, 0]

def k0_chk3 (i : grid0.Coords) (v4986 : BitVec 32) : Prop :=
  (∀ (k0_h1 : k0_cond1 i = 1#1), ∀ a, (k0_off3 v4986) a + S8x128.size a ≤ S1544x128.size a)
theorem k0_off3_inb : ∀ (i : grid0.Coords) (v4986 : BitVec 32) (k0_hw3 : k0_chk3 i v4986), ∀ (k0_h1 : k0_cond1 i = 1#1), ∀ a, (k0_off3 v4986) a + S8x128.size a ≤ S1544x128.size a := fun i v4986 k0_hw3 k0_h1 => k0_hw3 k0_h1

def k0_off4 (v4992 : BitVec 32) : Fin 2 → Nat :=
  let v4993 : Index := Scalar.indexCast v4992
  let c0_2052 : Index := 0#32
  ![v4993.toNat, 0]

def k0_chk4 (i : grid0.Coords) (v4992 : BitVec 32) : Prop :=
  (∀ (k0_h1 : k0_cond1 i = 1#1), ∀ a, (k0_off4 v4992) a + S8x128.size a ≤ S1544x128.size a)
theorem k0_off4_inb : ∀ (i : grid0.Coords) (v4992 : BitVec 32) (k0_hw4 : k0_chk4 i v4992), ∀ (k0_h1 : k0_cond1 i = 1#1), ∀ a, (k0_off4 v4992) a + S8x128.size a ≤ S1544x128.size a := fun i v4992 k0_hw4 k0_h1 => k0_hw4 k0_h1

def k0_off5 (v4998 : BitVec 32) : Fin 2 → Nat :=
  let v4999 : Index := Scalar.indexCast v4998
  let c0_2054 : Index := 0#32
  ![v4999.toNat, 0]

def k0_chk5 (i : grid0.Coords) (v4998 : BitVec 32) : Prop :=
  (∀ (k0_h1 : k0_cond1 i = 1#1), ∀ a, (k0_off5 v4998) a + S8x128.size a ≤ S1544x128.size a)
theorem k0_off5_inb : ∀ (i : grid0.Coords) (v4998 : BitVec 32) (k0_hw5 : k0_chk5 i v4998), ∀ (k0_h1 : k0_cond1 i = 1#1), ∀ a, (k0_off5 v4998) a + S8x128.size a ≤ S1544x128.size a := fun i v4998 k0_hw5 k0_h1 => k0_hw5 k0_h1

def k0_off6 (v5004 : BitVec 32) : Fin 2 → Nat :=
  let v5005 : Index := Scalar.indexCast v5004
  let c0_2056 : Index := 0#32
  ![v5005.toNat, 0]

def k0_chk6 (i : grid0.Coords) (v5004 : BitVec 32) : Prop :=
  (∀ (k0_h1 : k0_cond1 i = 1#1), ∀ a, (k0_off6 v5004) a + S8x128.size a ≤ S1544x128.size a)
theorem k0_off6_inb : ∀ (i : grid0.Coords) (v5004 : BitVec 32) (k0_hw6 : k0_chk6 i v5004), ∀ (k0_h1 : k0_cond1 i = 1#1), ∀ a, (k0_off6 v5004) a + S8x128.size a ≤ S1544x128.size a := fun i v5004 k0_hw6 k0_h1 => k0_hw6 k0_h1

def k0_off7 (v5010 : BitVec 32) : Fin 2 → Nat :=
  let v5011 : Index := Scalar.indexCast v5010
  let c0_2058 : Index := 0#32
  ![v5011.toNat, 0]

def k0_chk7 (i : grid0.Coords) (v5010 : BitVec 32) : Prop :=
  (∀ (k0_h1 : k0_cond1 i = 1#1), ∀ a, (k0_off7 v5010) a + S8x128.size a ≤ S1544x128.size a)
theorem k0_off7_inb : ∀ (i : grid0.Coords) (v5010 : BitVec 32) (k0_hw7 : k0_chk7 i v5010), ∀ (k0_h1 : k0_cond1 i = 1#1), ∀ a, (k0_off7 v5010) a + S8x128.size a ≤ S1544x128.size a := fun i v5010 k0_hw7 k0_h1 => k0_hw7 k0_h1

def k0_off8 (v5016 : BitVec 32) : Fin 2 → Nat :=
  let v5017 : Index := Scalar.indexCast v5016
  let c0_2060 : Index := 0#32
  ![v5017.toNat, 0]

def k0_chk8 (i : grid0.Coords) (v5016 : BitVec 32) : Prop :=
  (∀ (k0_h1 : k0_cond1 i = 1#1), ∀ a, (k0_off8 v5016) a + S8x128.size a ≤ S1544x128.size a)
theorem k0_off8_inb : ∀ (i : grid0.Coords) (v5016 : BitVec 32) (k0_hw8 : k0_chk8 i v5016), ∀ (k0_h1 : k0_cond1 i = 1#1), ∀ a, (k0_off8 v5016) a + S8x128.size a ≤ S1544x128.size a := fun i v5016 k0_hw8 k0_h1 => k0_hw8 k0_h1

def k0_off9 (v5022 : BitVec 32) : Fin 2 → Nat :=
  let v5023 : Index := Scalar.indexCast v5022
  let c0_2062 : Index := 0#32
  ![v5023.toNat, 0]

def k0_chk9 (i : grid0.Coords) (v5022 : BitVec 32) : Prop :=
  (∀ (k0_h1 : k0_cond1 i = 1#1), ∀ a, (k0_off9 v5022) a + S8x128.size a ≤ S1544x128.size a)
theorem k0_off9_inb : ∀ (i : grid0.Coords) (v5022 : BitVec 32) (k0_hw9 : k0_chk9 i v5022), ∀ (k0_h1 : k0_cond1 i = 1#1), ∀ a, (k0_off9 v5022) a + S8x128.size a ≤ S1544x128.size a := fun i v5022 k0_hw9 k0_h1 => k0_hw9 k0_h1

def k0_off10 (v5028 : BitVec 32) : Fin 2 → Nat :=
  let v5029 : Index := Scalar.indexCast v5028
  let c0_2064 : Index := 0#32
  ![v5029.toNat, 0]

def k0_chk10 (i : grid0.Coords) (v5028 : BitVec 32) : Prop :=
  (∀ (k0_h1 : k0_cond1 i = 1#1), ∀ a, (k0_off10 v5028) a + S8x128.size a ≤ S1544x128.size a)
theorem k0_off10_inb : ∀ (i : grid0.Coords) (v5028 : BitVec 32) (k0_hw10 : k0_chk10 i v5028), ∀ (k0_h1 : k0_cond1 i = 1#1), ∀ a, (k0_off10 v5028) a + S8x128.size a ≤ S1544x128.size a := fun i v5028 k0_hw10 k0_h1 => k0_hw10 k0_h1

def k0_off11 (v5034 : BitVec 32) : Fin 2 → Nat :=
  let v5035 : Index := Scalar.indexCast v5034
  let c0_2066 : Index := 0#32
  ![v5035.toNat, 0]

def k0_chk11 (i : grid0.Coords) (v5034 : BitVec 32) : Prop :=
  (∀ (k0_h1 : k0_cond1 i = 1#1), ∀ a, (k0_off11 v5034) a + S8x128.size a ≤ S1544x128.size a)
theorem k0_off11_inb : ∀ (i : grid0.Coords) (v5034 : BitVec 32) (k0_hw11 : k0_chk11 i v5034), ∀ (k0_h1 : k0_cond1 i = 1#1), ∀ a, (k0_off11 v5034) a + S8x128.size a ≤ S1544x128.size a := fun i v5034 k0_hw11 k0_h1 => k0_hw11 k0_h1

def k0_off12 (v5040 : BitVec 32) : Fin 2 → Nat :=
  let v5041 : Index := Scalar.indexCast v5040
  let c0_2068 : Index := 0#32
  ![v5041.toNat, 0]

def k0_chk12 (i : grid0.Coords) (v5040 : BitVec 32) : Prop :=
  (∀ (k0_h1 : k0_cond1 i = 1#1), ∀ a, (k0_off12 v5040) a + S8x128.size a ≤ S1544x128.size a)
theorem k0_off12_inb : ∀ (i : grid0.Coords) (v5040 : BitVec 32) (k0_hw12 : k0_chk12 i v5040), ∀ (k0_h1 : k0_cond1 i = 1#1), ∀ a, (k0_off12 v5040) a + S8x128.size a ≤ S1544x128.size a := fun i v5040 k0_hw12 k0_h1 => k0_hw12 k0_h1

def k0_mult1 (i : grid0.Coords) : BitVec 32 :=
  let arg0 : BitVec 32 := BitVec.ofNat 32 (i 0).val
  let c512_i32 : BitVec 32 := 512#32
  let v3 : BitVec 32 := Scalar.muli arg0 c512_i32
  v3
def k0_mult2 (i : grid0.Coords) : BitVec 32 :=
  let arg0 : BitVec 32 := BitVec.ofNat 32 (i 0).val
  let c512_i32 : BitVec 32 := 512#32
  let v3 : BitVec 32 := Scalar.muli arg0 c512_i32
  let v4 : BitVec 32 := v3
  let c0_i32_1 : BitVec 32 := 0#32
  let v6 : BitVec 32 := Scalar.addi v4 c0_i32_1
  v6
def k0_off13 (i : grid0.Coords) (c0_i32_1 : BitVec 32) : Fin 2 → Nat :=
  let c0 : Index := 0#32
  let arg0 : BitVec 32 := BitVec.ofNat 32 (i 0).val
  let c512_i32 : BitVec 32 := 512#32
  let v3 : BitVec 32 := Scalar.muli arg0 c512_i32
  let v4 : BitVec 32 := v3
  let v6 : BitVec 32 := Scalar.addi v4 c0_i32_1
  let v7 : BitVec 32 := v6
  let v8 : Index := Scalar.indexCast v7
  ![0, v8.toNat]
def k0_mult3 (i : grid0.Coords) : BitVec 32 :=
  let arg0 : BitVec 32 := BitVec.ofNat 32 (i 0).val
  let c512_i32 : BitVec 32 := 512#32
  let v3 : BitVec 32 := Scalar.muli arg0 c512_i32
  let v4 : BitVec 32 := v3
  let c128_i32 : BitVec 32 := 128#32
  let v11 : BitVec 32 := Scalar.addi v4 c128_i32
  v11
def k0_mult4 (i : grid0.Coords) : BitVec 32 :=
  let arg0 : BitVec 32 := BitVec.ofNat 32 (i 0).val
  let c512_i32 : BitVec 32 := 512#32
  let v3 : BitVec 32 := Scalar.muli arg0 c512_i32
  let v4 : BitVec 32 := v3
  let c256_i32 : BitVec 32 := 256#32
  let v16 : BitVec 32 := Scalar.addi v4 c256_i32
  v16
def k0_mult5 (i : grid0.Coords) : BitVec 32 :=
  let arg0 : BitVec 32 := BitVec.ofNat 32 (i 0).val
  let c512_i32 : BitVec 32 := 512#32
  let v3 : BitVec 32 := Scalar.muli arg0 c512_i32
  let v4 : BitVec 32 := v3
  let c384_i32 : BitVec 32 := 384#32
  let v21 : BitVec 32 := Scalar.addi v4 c384_i32
  v21
def k0_off14 (v4290 : BitVec 32) : Fin 3 → Nat :=
  let c0_1693 : Index := 0#32
  let v4291 : Index := Scalar.indexCast v4290
  let c0_1694 : Index := 0#32
  ![0, v4291.toNat, 0]

def k0_chk13 (v4290 : BitVec 32) : Prop :=
  (∀ a, (k0_off14 v4290) a + S1x8x128.size a ≤ S4x904x128.size a)
theorem k0_off14_inb : ∀ (v4290 : BitVec 32) (k0_hw13 : k0_chk13 v4290), ∀ a, (k0_off14 v4290) a + S1x8x128.size a ≤ S4x904x128.size a := fun v4290 k0_hw13 => k0_hw13

def k0_off15 (v4303 : BitVec 32) : Fin 3 → Nat :=
  let c0_1699 : Index := 0#32
  let v4304 : Index := Scalar.indexCast v4303
  let c0_1700 : Index := 0#32
  ![0, v4304.toNat, 0]

def k0_chk14 (v4303 : BitVec 32) : Prop :=
  (∀ a, (k0_off15 v4303) a + S1x8x128.size a ≤ S4x904x128.size a)
theorem k0_off15_inb : ∀ (v4303 : BitVec 32) (k0_hw14 : k0_chk14 v4303), ∀ a, (k0_off15 v4303) a + S1x8x128.size a ≤ S4x904x128.size a := fun v4303 k0_hw14 => k0_hw14

def k0_off16 (v4316 : BitVec 32) : Fin 3 → Nat :=
  let c0_1706 : Index := 0#32
  let v4317 : Index := Scalar.indexCast v4316
  let c0_1707 : Index := 0#32
  ![0, v4317.toNat, 0]

def k0_chk15 (v4316 : BitVec 32) : Prop :=
  (∀ a, (k0_off16 v4316) a + S1x8x128.size a ≤ S4x904x128.size a)
theorem k0_off16_inb : ∀ (v4316 : BitVec 32) (k0_hw15 : k0_chk15 v4316), ∀ a, (k0_off16 v4316) a + S1x8x128.size a ≤ S4x904x128.size a := fun v4316 k0_hw15 => k0_hw15

def k0_off17 (v4329 : BitVec 32) : Fin 3 → Nat :=
  let c0_1712 : Index := 0#32
  let v4330 : Index := Scalar.indexCast v4329
  let c0_1713 : Index := 0#32
  ![0, v4330.toNat, 0]

def k0_chk16 (v4329 : BitVec 32) : Prop :=
  (∀ a, (k0_off17 v4329) a + S1x8x128.size a ≤ S4x904x128.size a)
theorem k0_off17_inb : ∀ (v4329 : BitVec 32) (k0_hw16 : k0_chk16 v4329), ∀ a, (k0_off17 v4329) a + S1x8x128.size a ≤ S4x904x128.size a := fun v4329 k0_hw16 => k0_hw16

def k0_off18 (v4342 : BitVec 32) : Fin 3 → Nat :=
  let c0_1718 : Index := 0#32
  let v4343 : Index := Scalar.indexCast v4342
  let c0_1719 : Index := 0#32
  ![0, v4343.toNat, 0]

def k0_chk17 (v4342 : BitVec 32) : Prop :=
  (∀ a, (k0_off18 v4342) a + S1x8x128.size a ≤ S4x904x128.size a)
theorem k0_off18_inb : ∀ (v4342 : BitVec 32) (k0_hw17 : k0_chk17 v4342), ∀ a, (k0_off18 v4342) a + S1x8x128.size a ≤ S4x904x128.size a := fun v4342 k0_hw17 => k0_hw17

def k0_off19 (v4355 : BitVec 32) : Fin 3 → Nat :=
  let c0_1724 : Index := 0#32
  let v4356 : Index := Scalar.indexCast v4355
  let c0_1725 : Index := 0#32
  ![0, v4356.toNat, 0]

def k0_chk18 (v4355 : BitVec 32) : Prop :=
  (∀ a, (k0_off19 v4355) a + S1x8x128.size a ≤ S4x904x128.size a)
theorem k0_off19_inb : ∀ (v4355 : BitVec 32) (k0_hw18 : k0_chk18 v4355), ∀ a, (k0_off19 v4355) a + S1x8x128.size a ≤ S4x904x128.size a := fun v4355 k0_hw18 => k0_hw18

def k0_off20 (v4368 : BitVec 32) : Fin 3 → Nat :=
  let c0_1730 : Index := 0#32
  let v4369 : Index := Scalar.indexCast v4368
  let c0_1731 : Index := 0#32
  ![0, v4369.toNat, 0]

def k0_chk19 (v4368 : BitVec 32) : Prop :=
  (∀ a, (k0_off20 v4368) a + S1x8x128.size a ≤ S4x904x128.size a)
theorem k0_off20_inb : ∀ (v4368 : BitVec 32) (k0_hw19 : k0_chk19 v4368), ∀ a, (k0_off20 v4368) a + S1x8x128.size a ≤ S4x904x128.size a := fun v4368 k0_hw19 => k0_hw19

def k0_off21 (v4381 : BitVec 32) : Fin 3 → Nat :=
  let c0_1737 : Index := 0#32
  let v4382 : Index := Scalar.indexCast v4381
  let c0_1738 : Index := 0#32
  ![0, v4382.toNat, 0]

def k0_chk20 (v4381 : BitVec 32) : Prop :=
  (∀ a, (k0_off21 v4381) a + S1x8x128.size a ≤ S4x904x128.size a)
theorem k0_off21_inb : ∀ (v4381 : BitVec 32) (k0_hw20 : k0_chk20 v4381), ∀ a, (k0_off21 v4381) a + S1x8x128.size a ≤ S4x904x128.size a := fun v4381 k0_hw20 => k0_hw20

def k0_off22 (v4394 : BitVec 32) : Fin 3 → Nat :=
  let c0_1743 : Index := 0#32
  let v4395 : Index := Scalar.indexCast v4394
  let c0_1744 : Index := 0#32
  ![0, v4395.toNat, 0]

def k0_chk21 (v4394 : BitVec 32) : Prop :=
  (∀ a, (k0_off22 v4394) a + S1x8x128.size a ≤ S4x904x128.size a)
theorem k0_off22_inb : ∀ (v4394 : BitVec 32) (k0_hw21 : k0_chk21 v4394), ∀ a, (k0_off22 v4394) a + S1x8x128.size a ≤ S4x904x128.size a := fun v4394 k0_hw21 => k0_hw21

def k0_off23 (v4407 : BitVec 32) : Fin 3 → Nat :=
  let c0_1749 : Index := 0#32
  let v4408 : Index := Scalar.indexCast v4407
  let c0_1750 : Index := 0#32
  ![0, v4408.toNat, 0]

def k0_chk22 (v4407 : BitVec 32) : Prop :=
  (∀ a, (k0_off23 v4407) a + S1x8x128.size a ≤ S4x904x128.size a)
theorem k0_off23_inb : ∀ (v4407 : BitVec 32) (k0_hw22 : k0_chk22 v4407), ∀ a, (k0_off23 v4407) a + S1x8x128.size a ≤ S4x904x128.size a := fun v4407 k0_hw22 => k0_hw22

def k0_off24 (v4420 : BitVec 32) : Fin 3 → Nat :=
  let c0_1755 : Index := 0#32
  let v4421 : Index := Scalar.indexCast v4420
  let c0_1756 : Index := 0#32
  ![0, v4421.toNat, 0]

def k0_chk23 (v4420 : BitVec 32) : Prop :=
  (∀ a, (k0_off24 v4420) a + S1x8x128.size a ≤ S4x904x128.size a)
theorem k0_off24_inb : ∀ (v4420 : BitVec 32) (k0_hw23 : k0_chk23 v4420), ∀ a, (k0_off24 v4420) a + S1x8x128.size a ≤ S4x904x128.size a := fun v4420 k0_hw23 => k0_hw23

def k0_off25 (v4433 : BitVec 32) : Fin 3 → Nat :=
  let c0_1761 : Index := 0#32
  let v4434 : Index := Scalar.indexCast v4433
  let c0_1762 : Index := 0#32
  ![0, v4434.toNat, 0]

def k0_chk24 (v4433 : BitVec 32) : Prop :=
  (∀ a, (k0_off25 v4433) a + S1x8x128.size a ≤ S4x904x128.size a)
theorem k0_off25_inb : ∀ (v4433 : BitVec 32) (k0_hw24 : k0_chk24 v4433), ∀ a, (k0_off25 v4433) a + S1x8x128.size a ≤ S4x904x128.size a := fun v4433 k0_hw24 => k0_hw24

def k0_off26 (v4448 : BitVec 32) : Fin 3 → Nat :=
  let c1_1769 : Index := 1#32
  let v4449 : Index := Scalar.indexCast v4448
  let c0_1770 : Index := 0#32
  ![1, v4449.toNat, 0]

def k0_chk25 (v4448 : BitVec 32) : Prop :=
  (∀ a, (k0_off26 v4448) a + S1x8x128.size a ≤ S4x904x128.size a)
theorem k0_off26_inb : ∀ (v4448 : BitVec 32) (k0_hw25 : k0_chk25 v4448), ∀ a, (k0_off26 v4448) a + S1x8x128.size a ≤ S4x904x128.size a := fun v4448 k0_hw25 => k0_hw25

def k0_off27 (v4461 : BitVec 32) : Fin 3 → Nat :=
  let c1_1776 : Index := 1#32
  let v4462 : Index := Scalar.indexCast v4461
  let c0_1777 : Index := 0#32
  ![1, v4462.toNat, 0]

def k0_chk26 (v4461 : BitVec 32) : Prop :=
  (∀ a, (k0_off27 v4461) a + S1x8x128.size a ≤ S4x904x128.size a)
theorem k0_off27_inb : ∀ (v4461 : BitVec 32) (k0_hw26 : k0_chk26 v4461), ∀ a, (k0_off27 v4461) a + S1x8x128.size a ≤ S4x904x128.size a := fun v4461 k0_hw26 => k0_hw26

def k0_off28 (v4474 : BitVec 32) : Fin 3 → Nat :=
  let c1_1783 : Index := 1#32
  let v4475 : Index := Scalar.indexCast v4474
  let c0_1784 : Index := 0#32
  ![1, v4475.toNat, 0]

def k0_chk27 (v4474 : BitVec 32) : Prop :=
  (∀ a, (k0_off28 v4474) a + S1x8x128.size a ≤ S4x904x128.size a)
theorem k0_off28_inb : ∀ (v4474 : BitVec 32) (k0_hw27 : k0_chk27 v4474), ∀ a, (k0_off28 v4474) a + S1x8x128.size a ≤ S4x904x128.size a := fun v4474 k0_hw27 => k0_hw27

def k0_off29 (v4487 : BitVec 32) : Fin 3 → Nat :=
  let c1_1790 : Index := 1#32
  let v4488 : Index := Scalar.indexCast v4487
  let c0_1791 : Index := 0#32
  ![1, v4488.toNat, 0]

def k0_chk28 (v4487 : BitVec 32) : Prop :=
  (∀ a, (k0_off29 v4487) a + S1x8x128.size a ≤ S4x904x128.size a)
theorem k0_off29_inb : ∀ (v4487 : BitVec 32) (k0_hw28 : k0_chk28 v4487), ∀ a, (k0_off29 v4487) a + S1x8x128.size a ≤ S4x904x128.size a := fun v4487 k0_hw28 => k0_hw28

def k0_off30 (v4500 : BitVec 32) : Fin 3 → Nat :=
  let c1_1797 : Index := 1#32
  let v4501 : Index := Scalar.indexCast v4500
  let c0_1798 : Index := 0#32
  ![1, v4501.toNat, 0]

def k0_chk29 (v4500 : BitVec 32) : Prop :=
  (∀ a, (k0_off30 v4500) a + S1x8x128.size a ≤ S4x904x128.size a)
theorem k0_off30_inb : ∀ (v4500 : BitVec 32) (k0_hw29 : k0_chk29 v4500), ∀ a, (k0_off30 v4500) a + S1x8x128.size a ≤ S4x904x128.size a := fun v4500 k0_hw29 => k0_hw29

def k0_off31 (v4513 : BitVec 32) : Fin 3 → Nat :=
  let c1_1804 : Index := 1#32
  let v4514 : Index := Scalar.indexCast v4513
  let c0_1805 : Index := 0#32
  ![1, v4514.toNat, 0]

def k0_chk30 (v4513 : BitVec 32) : Prop :=
  (∀ a, (k0_off31 v4513) a + S1x8x128.size a ≤ S4x904x128.size a)
theorem k0_off31_inb : ∀ (v4513 : BitVec 32) (k0_hw30 : k0_chk30 v4513), ∀ a, (k0_off31 v4513) a + S1x8x128.size a ≤ S4x904x128.size a := fun v4513 k0_hw30 => k0_hw30

def k0_off32 (v4526 : BitVec 32) : Fin 3 → Nat :=
  let c1_1811 : Index := 1#32
  let v4527 : Index := Scalar.indexCast v4526
  let c0_1812 : Index := 0#32
  ![1, v4527.toNat, 0]

def k0_chk31 (v4526 : BitVec 32) : Prop :=
  (∀ a, (k0_off32 v4526) a + S1x8x128.size a ≤ S4x904x128.size a)
theorem k0_off32_inb : ∀ (v4526 : BitVec 32) (k0_hw31 : k0_chk31 v4526), ∀ a, (k0_off32 v4526) a + S1x8x128.size a ≤ S4x904x128.size a := fun v4526 k0_hw31 => k0_hw31

def k0_off33 (v4539 : BitVec 32) : Fin 3 → Nat :=
  let c1_1818 : Index := 1#32
  let v4540 : Index := Scalar.indexCast v4539
  let c0_1819 : Index := 0#32
  ![1, v4540.toNat, 0]

def k0_chk32 (v4539 : BitVec 32) : Prop :=
  (∀ a, (k0_off33 v4539) a + S1x8x128.size a ≤ S4x904x128.size a)
theorem k0_off33_inb : ∀ (v4539 : BitVec 32) (k0_hw32 : k0_chk32 v4539), ∀ a, (k0_off33 v4539) a + S1x8x128.size a ≤ S4x904x128.size a := fun v4539 k0_hw32 => k0_hw32

def k0_off34 (v4552 : BitVec 32) : Fin 3 → Nat :=
  let c1_1825 : Index := 1#32
  let v4553 : Index := Scalar.indexCast v4552
  let c0_1826 : Index := 0#32
  ![1, v4553.toNat, 0]

def k0_chk33 (v4552 : BitVec 32) : Prop :=
  (∀ a, (k0_off34 v4552) a + S1x8x128.size a ≤ S4x904x128.size a)
theorem k0_off34_inb : ∀ (v4552 : BitVec 32) (k0_hw33 : k0_chk33 v4552), ∀ a, (k0_off34 v4552) a + S1x8x128.size a ≤ S4x904x128.size a := fun v4552 k0_hw33 => k0_hw33

def k0_off35 (v4565 : BitVec 32) : Fin 3 → Nat :=
  let c1_1832 : Index := 1#32
  let v4566 : Index := Scalar.indexCast v4565
  let c0_1833 : Index := 0#32
  ![1, v4566.toNat, 0]

def k0_chk34 (v4565 : BitVec 32) : Prop :=
  (∀ a, (k0_off35 v4565) a + S1x8x128.size a ≤ S4x904x128.size a)
theorem k0_off35_inb : ∀ (v4565 : BitVec 32) (k0_hw34 : k0_chk34 v4565), ∀ a, (k0_off35 v4565) a + S1x8x128.size a ≤ S4x904x128.size a := fun v4565 k0_hw34 => k0_hw34

def k0_off36 (v4578 : BitVec 32) : Fin 3 → Nat :=
  let c1_1839 : Index := 1#32
  let v4579 : Index := Scalar.indexCast v4578
  let c0_1840 : Index := 0#32
  ![1, v4579.toNat, 0]

def k0_chk35 (v4578 : BitVec 32) : Prop :=
  (∀ a, (k0_off36 v4578) a + S1x8x128.size a ≤ S4x904x128.size a)
theorem k0_off36_inb : ∀ (v4578 : BitVec 32) (k0_hw35 : k0_chk35 v4578), ∀ a, (k0_off36 v4578) a + S1x8x128.size a ≤ S4x904x128.size a := fun v4578 k0_hw35 => k0_hw35

def k0_off37 (v4591 : BitVec 32) : Fin 3 → Nat :=
  let c1_1846 : Index := 1#32
  let v4592 : Index := Scalar.indexCast v4591
  let c0_1847 : Index := 0#32
  ![1, v4592.toNat, 0]

def k0_chk36 (v4591 : BitVec 32) : Prop :=
  (∀ a, (k0_off37 v4591) a + S1x8x128.size a ≤ S4x904x128.size a)
theorem k0_off37_inb : ∀ (v4591 : BitVec 32) (k0_hw36 : k0_chk36 v4591), ∀ a, (k0_off37 v4591) a + S1x8x128.size a ≤ S4x904x128.size a := fun v4591 k0_hw36 => k0_hw36

def k0_off38 (v4606 : BitVec 32) : Fin 3 → Nat :=
  let c2_1854 : Index := 2#32
  let v4607 : Index := Scalar.indexCast v4606
  let c0_1855 : Index := 0#32
  ![2, v4607.toNat, 0]

def k0_chk37 (v4606 : BitVec 32) : Prop :=
  (∀ a, (k0_off38 v4606) a + S1x8x128.size a ≤ S4x904x128.size a)
theorem k0_off38_inb : ∀ (v4606 : BitVec 32) (k0_hw37 : k0_chk37 v4606), ∀ a, (k0_off38 v4606) a + S1x8x128.size a ≤ S4x904x128.size a := fun v4606 k0_hw37 => k0_hw37

def k0_off39 (v4619 : BitVec 32) : Fin 3 → Nat :=
  let c2_1861 : Index := 2#32
  let v4620 : Index := Scalar.indexCast v4619
  let c0_1862 : Index := 0#32
  ![2, v4620.toNat, 0]

def k0_chk38 (v4619 : BitVec 32) : Prop :=
  (∀ a, (k0_off39 v4619) a + S1x8x128.size a ≤ S4x904x128.size a)
theorem k0_off39_inb : ∀ (v4619 : BitVec 32) (k0_hw38 : k0_chk38 v4619), ∀ a, (k0_off39 v4619) a + S1x8x128.size a ≤ S4x904x128.size a := fun v4619 k0_hw38 => k0_hw38

def k0_off40 (v4632 : BitVec 32) : Fin 3 → Nat :=
  let c2_1868 : Index := 2#32
  let v4633 : Index := Scalar.indexCast v4632
  let c0_1869 : Index := 0#32
  ![2, v4633.toNat, 0]

def k0_chk39 (v4632 : BitVec 32) : Prop :=
  (∀ a, (k0_off40 v4632) a + S1x8x128.size a ≤ S4x904x128.size a)
theorem k0_off40_inb : ∀ (v4632 : BitVec 32) (k0_hw39 : k0_chk39 v4632), ∀ a, (k0_off40 v4632) a + S1x8x128.size a ≤ S4x904x128.size a := fun v4632 k0_hw39 => k0_hw39

def k0_off41 (v4645 : BitVec 32) : Fin 3 → Nat :=
  let c2_1875 : Index := 2#32
  let v4646 : Index := Scalar.indexCast v4645
  let c0_1876 : Index := 0#32
  ![2, v4646.toNat, 0]

def k0_chk40 (v4645 : BitVec 32) : Prop :=
  (∀ a, (k0_off41 v4645) a + S1x8x128.size a ≤ S4x904x128.size a)
theorem k0_off41_inb : ∀ (v4645 : BitVec 32) (k0_hw40 : k0_chk40 v4645), ∀ a, (k0_off41 v4645) a + S1x8x128.size a ≤ S4x904x128.size a := fun v4645 k0_hw40 => k0_hw40

def k0_off42 (v4658 : BitVec 32) : Fin 3 → Nat :=
  let c2_1882 : Index := 2#32
  let v4659 : Index := Scalar.indexCast v4658
  let c0_1883 : Index := 0#32
  ![2, v4659.toNat, 0]

def k0_chk41 (v4658 : BitVec 32) : Prop :=
  (∀ a, (k0_off42 v4658) a + S1x8x128.size a ≤ S4x904x128.size a)
theorem k0_off42_inb : ∀ (v4658 : BitVec 32) (k0_hw41 : k0_chk41 v4658), ∀ a, (k0_off42 v4658) a + S1x8x128.size a ≤ S4x904x128.size a := fun v4658 k0_hw41 => k0_hw41

def k0_off43 (v4671 : BitVec 32) : Fin 3 → Nat :=
  let c2_1889 : Index := 2#32
  let v4672 : Index := Scalar.indexCast v4671
  let c0_1890 : Index := 0#32
  ![2, v4672.toNat, 0]

def k0_chk42 (v4671 : BitVec 32) : Prop :=
  (∀ a, (k0_off43 v4671) a + S1x8x128.size a ≤ S4x904x128.size a)
theorem k0_off43_inb : ∀ (v4671 : BitVec 32) (k0_hw42 : k0_chk42 v4671), ∀ a, (k0_off43 v4671) a + S1x8x128.size a ≤ S4x904x128.size a := fun v4671 k0_hw42 => k0_hw42

def k0_off44 (v4684 : BitVec 32) : Fin 3 → Nat :=
  let c2_1896 : Index := 2#32
  let v4685 : Index := Scalar.indexCast v4684
  let c0_1897 : Index := 0#32
  ![2, v4685.toNat, 0]

def k0_chk43 (v4684 : BitVec 32) : Prop :=
  (∀ a, (k0_off44 v4684) a + S1x8x128.size a ≤ S4x904x128.size a)
theorem k0_off44_inb : ∀ (v4684 : BitVec 32) (k0_hw43 : k0_chk43 v4684), ∀ a, (k0_off44 v4684) a + S1x8x128.size a ≤ S4x904x128.size a := fun v4684 k0_hw43 => k0_hw43

def k0_off45 (v4697 : BitVec 32) : Fin 3 → Nat :=
  let c2_1903 : Index := 2#32
  let v4698 : Index := Scalar.indexCast v4697
  let c0_1904 : Index := 0#32
  ![2, v4698.toNat, 0]

def k0_chk44 (v4697 : BitVec 32) : Prop :=
  (∀ a, (k0_off45 v4697) a + S1x8x128.size a ≤ S4x904x128.size a)
theorem k0_off45_inb : ∀ (v4697 : BitVec 32) (k0_hw44 : k0_chk44 v4697), ∀ a, (k0_off45 v4697) a + S1x8x128.size a ≤ S4x904x128.size a := fun v4697 k0_hw44 => k0_hw44

def k0_off46 (v4710 : BitVec 32) : Fin 3 → Nat :=
  let c2_1910 : Index := 2#32
  let v4711 : Index := Scalar.indexCast v4710
  let c0_1911 : Index := 0#32
  ![2, v4711.toNat, 0]

def k0_chk45 (v4710 : BitVec 32) : Prop :=
  (∀ a, (k0_off46 v4710) a + S1x8x128.size a ≤ S4x904x128.size a)
theorem k0_off46_inb : ∀ (v4710 : BitVec 32) (k0_hw45 : k0_chk45 v4710), ∀ a, (k0_off46 v4710) a + S1x8x128.size a ≤ S4x904x128.size a := fun v4710 k0_hw45 => k0_hw45

def k0_off47 (v4723 : BitVec 32) : Fin 3 → Nat :=
  let c2_1917 : Index := 2#32
  let v4724 : Index := Scalar.indexCast v4723
  let c0_1918 : Index := 0#32
  ![2, v4724.toNat, 0]

def k0_chk46 (v4723 : BitVec 32) : Prop :=
  (∀ a, (k0_off47 v4723) a + S1x8x128.size a ≤ S4x904x128.size a)
theorem k0_off47_inb : ∀ (v4723 : BitVec 32) (k0_hw46 : k0_chk46 v4723), ∀ a, (k0_off47 v4723) a + S1x8x128.size a ≤ S4x904x128.size a := fun v4723 k0_hw46 => k0_hw46

def k0_off48 (v4736 : BitVec 32) : Fin 3 → Nat :=
  let c2_1924 : Index := 2#32
  let v4737 : Index := Scalar.indexCast v4736
  let c0_1925 : Index := 0#32
  ![2, v4737.toNat, 0]

def k0_chk47 (v4736 : BitVec 32) : Prop :=
  (∀ a, (k0_off48 v4736) a + S1x8x128.size a ≤ S4x904x128.size a)
theorem k0_off48_inb : ∀ (v4736 : BitVec 32) (k0_hw47 : k0_chk47 v4736), ∀ a, (k0_off48 v4736) a + S1x8x128.size a ≤ S4x904x128.size a := fun v4736 k0_hw47 => k0_hw47

def k0_off49 (v4749 : BitVec 32) : Fin 3 → Nat :=
  let c2_1931 : Index := 2#32
  let v4750 : Index := Scalar.indexCast v4749
  let c0_1932 : Index := 0#32
  ![2, v4750.toNat, 0]

def k0_chk48 (v4749 : BitVec 32) : Prop :=
  (∀ a, (k0_off49 v4749) a + S1x8x128.size a ≤ S4x904x128.size a)
theorem k0_off49_inb : ∀ (v4749 : BitVec 32) (k0_hw48 : k0_chk48 v4749), ∀ a, (k0_off49 v4749) a + S1x8x128.size a ≤ S4x904x128.size a := fun v4749 k0_hw48 => k0_hw48

def k0_off50 (v4764 : BitVec 32) : Fin 3 → Nat :=
  let c3_1939 : Index := 3#32
  let v4765 : Index := Scalar.indexCast v4764
  let c0_1940 : Index := 0#32
  ![3, v4765.toNat, 0]

def k0_chk49 (v4764 : BitVec 32) : Prop :=
  (∀ a, (k0_off50 v4764) a + S1x8x128.size a ≤ S4x904x128.size a)
theorem k0_off50_inb : ∀ (v4764 : BitVec 32) (k0_hw49 : k0_chk49 v4764), ∀ a, (k0_off50 v4764) a + S1x8x128.size a ≤ S4x904x128.size a := fun v4764 k0_hw49 => k0_hw49

def k0_off51 (v4777 : BitVec 32) : Fin 3 → Nat :=
  let c3_1946 : Index := 3#32
  let v4778 : Index := Scalar.indexCast v4777
  let c0_1947 : Index := 0#32
  ![3, v4778.toNat, 0]

def k0_chk50 (v4777 : BitVec 32) : Prop :=
  (∀ a, (k0_off51 v4777) a + S1x8x128.size a ≤ S4x904x128.size a)
theorem k0_off51_inb : ∀ (v4777 : BitVec 32) (k0_hw50 : k0_chk50 v4777), ∀ a, (k0_off51 v4777) a + S1x8x128.size a ≤ S4x904x128.size a := fun v4777 k0_hw50 => k0_hw50

def k0_off52 (v4790 : BitVec 32) : Fin 3 → Nat :=
  let c3_1953 : Index := 3#32
  let v4791 : Index := Scalar.indexCast v4790
  let c0_1954 : Index := 0#32
  ![3, v4791.toNat, 0]

def k0_chk51 (v4790 : BitVec 32) : Prop :=
  (∀ a, (k0_off52 v4790) a + S1x8x128.size a ≤ S4x904x128.size a)
theorem k0_off52_inb : ∀ (v4790 : BitVec 32) (k0_hw51 : k0_chk51 v4790), ∀ a, (k0_off52 v4790) a + S1x8x128.size a ≤ S4x904x128.size a := fun v4790 k0_hw51 => k0_hw51

def k0_off53 (v4803 : BitVec 32) : Fin 3 → Nat :=
  let c3_1960 : Index := 3#32
  let v4804 : Index := Scalar.indexCast v4803
  let c0_1961 : Index := 0#32
  ![3, v4804.toNat, 0]

def k0_chk52 (v4803 : BitVec 32) : Prop :=
  (∀ a, (k0_off53 v4803) a + S1x8x128.size a ≤ S4x904x128.size a)
theorem k0_off53_inb : ∀ (v4803 : BitVec 32) (k0_hw52 : k0_chk52 v4803), ∀ a, (k0_off53 v4803) a + S1x8x128.size a ≤ S4x904x128.size a := fun v4803 k0_hw52 => k0_hw52

def k0_off54 (v4816 : BitVec 32) : Fin 3 → Nat :=
  let c3_1967 : Index := 3#32
  let v4817 : Index := Scalar.indexCast v4816
  let c0_1968 : Index := 0#32
  ![3, v4817.toNat, 0]

def k0_chk53 (v4816 : BitVec 32) : Prop :=
  (∀ a, (k0_off54 v4816) a + S1x8x128.size a ≤ S4x904x128.size a)
theorem k0_off54_inb : ∀ (v4816 : BitVec 32) (k0_hw53 : k0_chk53 v4816), ∀ a, (k0_off54 v4816) a + S1x8x128.size a ≤ S4x904x128.size a := fun v4816 k0_hw53 => k0_hw53

def k0_off55 (v4829 : BitVec 32) : Fin 3 → Nat :=
  let c3_1974 : Index := 3#32
  let v4830 : Index := Scalar.indexCast v4829
  let c0_1975 : Index := 0#32
  ![3, v4830.toNat, 0]

def k0_chk54 (v4829 : BitVec 32) : Prop :=
  (∀ a, (k0_off55 v4829) a + S1x8x128.size a ≤ S4x904x128.size a)
theorem k0_off55_inb : ∀ (v4829 : BitVec 32) (k0_hw54 : k0_chk54 v4829), ∀ a, (k0_off55 v4829) a + S1x8x128.size a ≤ S4x904x128.size a := fun v4829 k0_hw54 => k0_hw54

def k0_off56 (v4842 : BitVec 32) : Fin 3 → Nat :=
  let c3_1981 : Index := 3#32
  let v4843 : Index := Scalar.indexCast v4842
  let c0_1982 : Index := 0#32
  ![3, v4843.toNat, 0]

def k0_chk55 (v4842 : BitVec 32) : Prop :=
  (∀ a, (k0_off56 v4842) a + S1x8x128.size a ≤ S4x904x128.size a)
theorem k0_off56_inb : ∀ (v4842 : BitVec 32) (k0_hw55 : k0_chk55 v4842), ∀ a, (k0_off56 v4842) a + S1x8x128.size a ≤ S4x904x128.size a := fun v4842 k0_hw55 => k0_hw55

def k0_off57 (v4855 : BitVec 32) : Fin 3 → Nat :=
  let c3_1988 : Index := 3#32
  let v4856 : Index := Scalar.indexCast v4855
  let c0_1989 : Index := 0#32
  ![3, v4856.toNat, 0]

def k0_chk56 (v4855 : BitVec 32) : Prop :=
  (∀ a, (k0_off57 v4855) a + S1x8x128.size a ≤ S4x904x128.size a)
theorem k0_off57_inb : ∀ (v4855 : BitVec 32) (k0_hw56 : k0_chk56 v4855), ∀ a, (k0_off57 v4855) a + S1x8x128.size a ≤ S4x904x128.size a := fun v4855 k0_hw56 => k0_hw56

def k0_off58 (v4868 : BitVec 32) : Fin 3 → Nat :=
  let c3_1995 : Index := 3#32
  let v4869 : Index := Scalar.indexCast v4868
  let c0_1996 : Index := 0#32
  ![3, v4869.toNat, 0]

def k0_chk57 (v4868 : BitVec 32) : Prop :=
  (∀ a, (k0_off58 v4868) a + S1x8x128.size a ≤ S4x904x128.size a)
theorem k0_off58_inb : ∀ (v4868 : BitVec 32) (k0_hw57 : k0_chk57 v4868), ∀ a, (k0_off58 v4868) a + S1x8x128.size a ≤ S4x904x128.size a := fun v4868 k0_hw57 => k0_hw57

def k0_off59 (v4881 : BitVec 32) : Fin 3 → Nat :=
  let c3_2002 : Index := 3#32
  let v4882 : Index := Scalar.indexCast v4881
  let c0_2003 : Index := 0#32
  ![3, v4882.toNat, 0]

def k0_chk58 (v4881 : BitVec 32) : Prop :=
  (∀ a, (k0_off59 v4881) a + S1x8x128.size a ≤ S4x904x128.size a)
theorem k0_off59_inb : ∀ (v4881 : BitVec 32) (k0_hw58 : k0_chk58 v4881), ∀ a, (k0_off59 v4881) a + S1x8x128.size a ≤ S4x904x128.size a := fun v4881 k0_hw58 => k0_hw58

def k0_off60 (v4894 : BitVec 32) : Fin 3 → Nat :=
  let c3_2009 : Index := 3#32
  let v4895 : Index := Scalar.indexCast v4894
  let c0_2010 : Index := 0#32
  ![3, v4895.toNat, 0]

def k0_chk59 (v4894 : BitVec 32) : Prop :=
  (∀ a, (k0_off60 v4894) a + S1x8x128.size a ≤ S4x904x128.size a)
theorem k0_off60_inb : ∀ (v4894 : BitVec 32) (k0_hw59 : k0_chk59 v4894), ∀ a, (k0_off60 v4894) a + S1x8x128.size a ≤ S4x904x128.size a := fun v4894 k0_hw59 => k0_hw59

def k0_off61 (v4907 : BitVec 32) : Fin 3 → Nat :=
  let c3_2016 : Index := 3#32
  let v4908 : Index := Scalar.indexCast v4907
  let c0_2017 : Index := 0#32
  ![3, v4908.toNat, 0]

def k0_chk60 (v4907 : BitVec 32) : Prop :=
  (∀ a, (k0_off61 v4907) a + S1x8x128.size a ≤ S4x904x128.size a)
theorem k0_off61_inb : ∀ (v4907 : BitVec 32) (k0_hw60 : k0_chk60 v4907), ∀ a, (k0_off61 v4907) a + S1x8x128.size a ≤ S4x904x128.size a := fun v4907 k0_hw60 => k0_hw60

def k0_off62 (i : grid0.Coords) : Fin 2 → Nat :=
  let c0_2022 : Index := 0#32
  let arg0 : BitVec 32 := BitVec.ofNat 32 (i 0).val
  let c512_i32 : BitVec 32 := 512#32
  let v3 : BitVec 32 := Scalar.muli arg0 c512_i32
  let v4 : BitVec 32 := v3
  let v4922 : Index := Scalar.indexCast v4
  ![0, v4922.toNat]
def k0_off63 (i : grid0.Coords) : Fin 2 → Nat :=
  let c0_2025 : Index := 0#32
  let arg0 : BitVec 32 := BitVec.ofNat 32 (i 0).val
  let c512_i32 : BitVec 32 := 512#32
  let v3 : BitVec 32 := Scalar.muli arg0 c512_i32
  let v4 : BitVec 32 := v3
  let v4937 : Index := Scalar.indexCast v4
  ![0, v4937.toNat]
def k0_cond2 (i : grid0.Coords) : BitVec 1 :=
  let arg0 : BitVec 32 := BitVec.ofNat 32 (i 0).val
  let c98_i32 : BitVec 32 := 98#32
  let v4960 : BitVec 1 := Scalar.cmpi .eq arg0 c98_i32
  let v4961 : BitVec 32 := Scalar.extui v4960
  let c0_i32_2037 : BitVec 32 := 0#32
  let v4962 : BitVec 1 := Scalar.cmpi .ne v4961 c0_i32_2037
  v4962

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x50688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x50688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x50368 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50368 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12x50368 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x12 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PoolIdeal.lean ====
variable {F : FTy → Type} [FloatOps F] [Named F]
def κ : String → Option EReal := fun
  | "inv_n" => some ((1 / 12 : ℝ) : EReal)
  | _ => none
-- ==== RefPoolIdeal.lean ====
abbrev S13 : Shape := ⟨1, ![13]⟩
abbrev S1536x1024 : Shape := ⟨2, ![1536, 1024]⟩
abbrev S1536x1 : Shape := ⟨2, ![1536, 1]⟩
abbrev S50368x1024 : Shape := ⟨2, ![50368, 1024]⟩
abbrev S50368 : Shape := ⟨1, ![50368]⟩
abbrev S12x50368 : Shape := ⟨2, ![12, 50368]⟩
abbrev S1x12 : Shape := ⟨2, ![1, 12]⟩
abbrev S1x50368 : Shape := ⟨2, ![1, 50368]⟩
abbrev S1x1 : Shape := ⟨2, ![1, 1]⟩
abbrev S1536x50368 : Shape := ⟨2, ![1536, 50368]⟩
abbrev S12x1536x50368 : Shape := ⟨3, ![12, 1536, 50368]⟩
abbrev S12 : Shape := ⟨1, ![12]⟩
abbrev S12x1x1 : Shape := ⟨3, ![12, 1, 1]⟩
abbrev S1x1536x50368 : Shape := ⟨3, ![1, 1536, 50368]⟩
abbrev S1 : Shape := ⟨1, ![1]⟩
abbrev S12x1 : Shape := ⟨2, ![12, 1]⟩

abbrev nBuf : Space → Nat
  | .hbm => 12
  | .vmem => 12
  | .smem => 0
  | _ => 0

abbrev bufTy : (tb : Table) → Fin (tcTables nBuf tb) → BufTy
  | .hbm, ⟨0, _⟩ => ⟨S13, .i32⟩
  | .hbm, ⟨1, _⟩ => ⟨S1536x1024, .fp8e4m3⟩
  | .hbm, ⟨2, _⟩ => ⟨S1536x1, .f32⟩
  | .hbm, ⟨3, _⟩ => ⟨S50368x1024, .fp8e4m3⟩
  | .hbm, ⟨4, _⟩ => ⟨S50368, .f32⟩
  | .hbm, ⟨5, _⟩ => ⟨S50368, .f32⟩
  | .hbm, ⟨6, _⟩ => ⟨S12x50368, .f32⟩
  | .hbm, ⟨7, _⟩ => ⟨S1x12, .f32⟩
  | .hbm, ⟨8, _⟩ => ⟨S1x50368, .f32⟩
  | .hbm, ⟨9, _⟩ => ⟨S1x1, .f32⟩
  | .hbm, ⟨10, _⟩ => ⟨S12x50368, .i8⟩
  | .hbm, ⟨11, _⟩ => ⟨S1x12, .f32⟩
  | .local _ .vmem, ⟨0, _⟩ => ⟨S13, .i32⟩
  | .local _ .vmem, ⟨1, _⟩ => ⟨S1536x1024, .fp8e4m3⟩
  | .local _ .vmem, ⟨2, _⟩ => ⟨S1536x1, .f32⟩
  | .local _ .vmem, ⟨3, _⟩ => ⟨S50368x1024, .fp8e4m3⟩
  | .local _ .vmem, ⟨4, _⟩ => ⟨S50368, .f32⟩
  | .local _ .vmem, ⟨5, _⟩ => ⟨S50368, .f32⟩
  | .local _ .vmem, ⟨6, _⟩ => ⟨S12x50368, .f32⟩
  | .local _ .vmem, ⟨7, _⟩ => ⟨S1x12, .f32⟩
  | .local _ .vmem, ⟨8, _⟩ => ⟨S1x50368, .f32⟩
  | .local _ .vmem, ⟨9, _⟩ => ⟨S1x1, .f32⟩
  | .local _ .vmem, ⟨10, _⟩ => ⟨S12x50368, .i8⟩
  | .local _ .vmem, ⟨11, _⟩ => ⟨S1x12, .f32⟩
  | _, _ => ⟨S13, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S50368x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S50368 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S50368 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x50368 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x50368 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x50368 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x12 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.TransformRow.lean ====
/- One row of the transform: the kernel's block payloads at row `r` of a block are the reference's whole-array payloads at
   row `R`, when the operands agree there. The kernel multiplies by 1/1024 where the reference divides by 1024; over the
   extended reals these are one operation. -/
module

public import proofs.«01_k».proof.Defs
public import proofs.«01_k».proof.Proof.Gen.TransformIdeal.Value
public import proofs.«01_k».proof.Proof.Gen.RefTransformIdeal.Value
public import Idealize.ShloMosaic.Lib.Pointwise

@[expose] public section

set_option maxRecDepth 16384

noncomputable section

namespace Cert.TransformRow

open Idealize.ShloMosaic

/-- The kernel's constant 2⁻¹⁰ is 1/1024. -/
theorem inv1024 : Ideal.ofBits .f32 981467136#32 = ((1 / 1024 : ℝ) : EReal) := by
  simp [Ideal.ofBits, Ideal.ieee, -EReal.coe_mul]; norm_num

/-- The reference's divisor is 1024. -/
theorem n1024 : Ideal.ofBits .f32 1149239296#32 = ((1024 : ℝ) : EReal) := by
  simp [Ideal.ofBits, Ideal.ieee, -EReal.coe_mul]; norm_num

/-- Dividing by 1024 is multiplying by 2⁻¹⁰. -/
theorem div1024 (x : EReal) : Ideal.div x (Ideal.ofBits .f32 1149239296#32) = x * Ideal.ofBits .f32 981467136#32 := by
  rw [n1024, inv1024]; exact Ideal.div_coe (by norm_num : (1024 : ℝ) ≠ 0) x

section
variable (v0 : Vec Ideal Cert.TransformIdeal.S256x1024 .fp8e4m3) (v1 : Vec Ideal Cert.TransformIdeal.S1024x1024 .fp8e4m3)
  (v3 : Vec Ideal Cert.TransformIdeal.S256x1 .f32) (v7 v11 v39 v43 : Vec Ideal Cert.TransformIdeal.S1x1024 .f32)
  (V0 : Vec Ideal Cert.RefTransformIdeal.S1536x1024 .fp8e4m3)
  (V3 : Vec Ideal Cert.RefTransformIdeal.S1536 .f32) (V7 V11 V39 V43 : Vec Ideal Cert.RefTransformIdeal.S1024 .f32)
  (r : Fin 256) (R : Fin 1536)
  (h0 : ∀ k : Fin 1024, v0 (ix2 r k) = V0 (ix2 R k)) (h3 : v3 (ix2 r 0) = V3 (ix1 R))
  (h7 : ∀ k : Fin 1024, v7 (ix2 0 k) = V7 (ix1 k)) (h11 : ∀ k : Fin 1024, v11 (ix2 0 k) = V11 (ix1 k))
  (h39 : ∀ k : Fin 1024, v39 (ix2 0 k) = V39 (ix1 k)) (h43 : ∀ k : Fin 1024, v43 (ix2 0 k) = V43 (ix1 k))
include h0 h3 h7 h11 h39

/-- The row, normalised and scaled by gamma: kernel and reference agree. -/
theorem norm_eq (j : Fin 1024) :
    (Cert.TransformIdeal.Gen.k0_pay4 v0 v1 v3 v7 v11 (ix2 r j) : EReal) * v39 (ix2 0 j)
      = Cert.RefTransformIdeal.Gen.k0_pay4 V0 v1 V3 V7 V11 V39 (ix2 R j) := by
  pointwise [Cert.TransformIdeal.Gen.k0_pay4, Cert.RefTransformIdeal.Gen.k0_pay4]
  simp only [h0, h3, h7, h11, h39, div1024]

include h43

/-- The row's scale: kernel and reference agree. -/
theorem scale_eq :
    Cert.TransformIdeal.Gen.k0_pay2 (Cert.TransformIdeal.Gen.k0_pay4 v0 v1 v3 v7 v11) v39 v43 (ix2 r 0)
      = Cert.RefTransformIdeal.Gen.k0_pay2 (Cert.RefTransformIdeal.Gen.k0_pay4 V0 v1 V3 V7 V11 V39) V43 (ix2 R 0) := by
  have h := norm_eq v0 v1 v3 v7 v11 v39 V0 V3 V7 V11 V39 r R h0 h3 h7 h11 h39
  generalize Cert.TransformIdeal.Gen.k0_pay4 v0 v1 v3 v7 v11 = x at h ⊢
  generalize Cert.RefTransformIdeal.Gen.k0_pay4 V0 v1 V3 V7 V11 V39 = X at h ⊢
  pointwise [Cert.TransformIdeal.Gen.k0_pay2, Cert.RefTransformIdeal.Gen.k0_pay2, Cert.TransformIdeal.Gen.k0_pay1, Cert.RefTransformIdeal.Gen.k0_pay1]
  simp only [h, h43]

/-- The row's codes: kernel and reference agree. -/
theorem codes_eq (j : Fin 1024) :
    Cert.TransformIdeal.Gen.k0_pay3 (Cert.TransformIdeal.Gen.k0_pay4 v0 v1 v3 v7 v11) v39 v43 (ix2 r j)
      = Cert.RefTransformIdeal.Gen.k0_pay3 (Cert.RefTransformIdeal.Gen.k0_pay4 V0 v1 V3 V7 V11 V39) V43 (ix2 R j) := by
  have h := norm_eq v0 v1 v3 v7 v11 v39 V0 V3 V7 V11 V39 r R h0 h3 h7 h11 h39
  generalize Cert.TransformIdeal.Gen.k0_pay4 v0 v1 v3 v7 v11 = x at h ⊢
  generalize Cert.RefTransformIdeal.Gen.k0_pay4 V0 v1 V3 V7 V11 V39 = X at h ⊢
  pointwise [Cert.TransformIdeal.Gen.k0_pay3, Cert.RefTransformIdeal.Gen.k0_pay3, Cert.TransformIdeal.Gen.k0_pay2, Cert.RefTransformIdeal.Gen.k0_pay2, Cert.TransformIdeal.Gen.k0_pay1, Cert.RefTransformIdeal.Gen.k0_pay1]
  simp only [h, h43]
end

end Cert.TransformRow
-- ==== Proof.TransformFinal.lean ====
/- What the transform's two result arrays hold after the run: the reference's codes and scales of the argument arrays.
   Each grid point's block of 256 rows is read at a row and is, by Proof/TransformRow.lean, that row of the reference. -/
module

public import proofs.«01_k».proof.Proof.TransformRow
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TransformFinal

open Cert.TransformIdeal Cert.TransformIdeal.Gen

variable (m : (ℓ : Loc nD τ sig) → Buf (Elt Ideal) ℓ) (ρ : Dev nD → PrngReg)

theorem hz1 : (![0] : Fin 1 → Nat) = fun _ => 0 := funext fun a => by fin_cases a; rfl
theorem hz : (![0, 0] : Fin 2 → Nat) = fun _ => 0 := funext fun a => by fin_cases a <;> rfl

/-- The array's row that is row `r` of block `t`. -/
def row (t : Fin cfg0.N) (r : Fin 256) : Fin 1536 := ⟨256 * t.val + r.val, by have : cfg0.N = 6 := N_0; omega⟩

/-- Which block each window takes at each of the six points. -/
theorem idx : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) := by
  decide +kernel

theorem emb0 (t : Fin cfg0.N) (y : S256x1024.Idx) : ((cfg0.win 0).blk t).view.emb y = ix2 (row t (y 0)) (y 1) := by
  obtain ⟨e0, e1⟩ := (idx t).1
  funext a; apply Fin.ext
  match a with
  | ⟨0, _⟩ => show win0_0.index t (0 : Fin 2) * 256 + 1 * (y 0).val = 256 * t.val + (y 0).val; omega
  | ⟨1, _⟩ => show win0_0.index t (1 : Fin 2) * 1024 + 1 * (y 1).val = (y 1).val; omega

theorem emb1 (t : Fin cfg0.N) (y : S1024x1024.Idx) : ((cfg0.win 1).blk t).view.emb y = y := by
  obtain ⟨e0, e1⟩ := (idx t).2.1
  funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem emb2 (t : Fin cfg0.N) (y : S256x1.Idx) : ((cfg0.win 2).blk t).view.emb y = ix2 (row t (y 0)) (y 1) := by
  obtain ⟨e0, e1⟩ := (idx t).2.2.1
  funext a; apply Fin.ext
  match a with
  | ⟨0, _⟩ => show win0_2.index t (0 : Fin 2) * 256 + 1 * (y 0).val = 256 * t.val + (y 0).val; omega
  | ⟨1, _⟩ => show win0_2.index t (1 : Fin 2) * 1 + 1 * (y 1).val = (y 1).val; omega

theorem emb3 (t : Fin cfg0.N) (y : S1x1024.Idx) : ((cfg0.win 3).blk t).view.emb y = y := by
  obtain ⟨e0, e1⟩ := (idx t).2.2.2.1
  funext a; apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega

theorem emb4 (t : Fin cfg0.N) (y : S1x1024.Idx) : ((cfg0.win 4).blk t).view.emb y = y := by
  obtain ⟨e0, e1⟩ := (idx t).2.2.2.2.1
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem emb5 (t : Fin cfg0.N) (y : S1x1024.Idx) : ((cfg0.win 5).blk t).view.emb y = y := by
  obtain ⟨e0, e1⟩ := (idx t).2.2.2.2.2.1
  funext a; apply Fin.ext
  match a with
  | ⟨0, _⟩ => show win0_5.index t (0 : Fin 2) * 1 + 1 * (y 0).val = (y 0).val; omega
  | ⟨1, _⟩ => show win0_5.index t (1 : Fin 2) * 1024 + 1 * (y 1).val = (y 1).val; omega

theorem emb6 (t : Fin cfg0.N) (y : S1x1024.Idx) : ((cfg0.win 6).blk t).view.emb y = y := by
  obtain ⟨e0, e1⟩ := (idx t).2.2.2.2.2.2.1
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

theorem emb7 (t : Fin cfg0.N) (y : S256x1024.Idx) : ((cfg0.win 7).blk t).view.emb y = ix2 (row t (y 0)) (y 1) := by
  obtain ⟨e0, e1⟩ := (idx t).2.2.2.2.2.2.2.1
  funext a; apply Fin.ext
  match a with
  | ⟨0, _⟩ => show win0_7.index t (0 : Fin 2) * 256 + 1 * (y 0).val = 256 * t.val + (y 0).val; omega
  | ⟨1, _⟩ => show win0_7.index t (1 : Fin 2) * 1024 + 1 * (y 1).val = (y 1).val; omega

theorem emb8 (t : Fin cfg0.N) (y : S256x1.Idx) : ((cfg0.win 8).blk t).view.emb y = ix2 (row t (y 0)) (y 1) := by
  obtain ⟨e0, e1⟩ := (idx t).2.2.2.2.2.2.2.2
  funext a; apply Fin.ext
  match a with
  | ⟨0, _⟩ => show win0_8.index t (0 : Fin 2) * 256 + 1 * (y 0).val = 256 * t.val + (y 0).val; omega
  | ⟨1, _⟩ => show win0_8.index t (1 : Fin 2) * 1 + 1 * (y 1).val = (y 1).val; omega

/-- The staged blocks, read: rows of the first argument and of its scales, the rest whole. -/
theorem b0 (c : Dev nD) (t : Fin cfg0.N) (r : Fin 256) (k : Fin 1024) :
    iblk m c 0 t (ix2 r k) = m ((c : Thread nD τ).loc main_arg0) (ix2 (row t r) k) := by
  unfold iblk
  rw [View.read_apply, cast_eq]
  refine (congrArg _ (emb0 t _)).trans ?_
  exact congrFun (V_main_arg0 m c) _

theorem b1 (c : Dev nD) (t : Fin cfg0.N) : iblk m c 1 t = m ((c : Thread nD τ).loc main_arg2) := by
  funext y
  unfold iblk
  rw [View.read_apply, cast_eq]
  refine (congrArg _ (emb1 t _)).trans ?_
  exact congrFun (V_main_arg2 m c) _

theorem b2 (c : Dev nD) (t : Fin cfg0.N) (r : Fin 256) :
    iblk m c 2 t (ix2 r 0) = m ((c : Thread nD τ).loc main_arg1) (ix1 (row t r)) := by
  unfold iblk
  rw [View.read_apply, cast_eq]
  refine (congrArg _ (emb2 t _)).trans ?_
  show V m c main_v0 _ = _
  entry_read
  pointwise

theorem b3 (c : Dev nD) (t : Fin cfg0.N) (k : Fin 1024) :
    iblk m c 3 t (ix2 0 k) = m ((c : Thread nD τ).loc main_arg3) (ix1 k) := by
  unfold iblk
  rw [View.read_apply, cast_eq]
  refine (congrArg _ (emb3 t _)).trans ?_
  show V m c main_v1 _ = _
  entry_read
  pointwise

theorem b4 (c : Dev nD) (t : Fin cfg0.N) (k : Fin 1024) :
    iblk m c 4 t (ix2 0 k) = m ((c : Thread nD τ).loc main_arg4) (ix1 k) := by
  unfold iblk
  rw [View.read_apply, cast_eq]
  refine (congrArg _ (emb4 t _)).trans ?_
  show V m c main_v2 _ = _
  entry_read
  pointwise

theorem b5 (c : Dev nD) (t : Fin cfg0.N) (k : Fin 1024) :
    iblk m c 5 t (ix2 0 k) = m ((c : Thread nD τ).loc main_arg5) (ix1 k) := by
  unfold iblk
  rw [View.read_apply, cast_eq]
  refine (congrArg _ (emb5 t _)).trans ?_
  show V m c main_v3 _ = _
  entry_read
  pointwise

theorem b6 (c : Dev nD) (t : Fin cfg0.N) (k : Fin 1024) :
    iblk m c 6 t (ix2 0 k) = m ((c : Thread nD τ).loc main_arg6) (ix1 k) := by
  unfold iblk
  rw [View.read_apply, cast_eq]
  refine (congrArg _ (emb6 t _)).trans ?_
  show V m c main_v4 _ = _
  entry_read
  pointwise

/-- The reference's normalised rows, its loads of whole arrays read. -/
theorem refPre (a0 : Vec Ideal S1536x1024 .fp8e4m3) (a1 : Vec Ideal S1536 .f32) (a2 : Vec Ideal S1024x1024 .fp8e4m3)
    (a3 a4 a5 a6 : Vec Ideal S1024 .f32) :
    Cert.RefTransformIdeal.Gen.k0_pay5 (F := Ideal) a0 a1 a2 a3 a4 a5 a6 = Cert.RefTransformIdeal.Gen.k0_pay4 a0 a2 a1 a3 a4 a5 := by
  unfold Cert.RefTransformIdeal.Gen.k0_pay5
  rw [View.ld_unit_zero (S := S1536x1024) hz _ a0, View.ld_unit_zero (S := S1024x1024) hz _ a2,
    View.ld_unit_zero (S := S1536) hz1 _ a1, View.ld_unit_zero (S := S1024) hz1 _ a3,
    View.ld_unit_zero (S := S1024) hz1 _ a4, View.ld_unit_zero (S := S1024) hz1 _ a5]

/-- The codes of the reference, of device `c`'s argument arrays. -/
def G7 (c : Dev nD) : Buf (Elt Ideal) ((c : Thread nD τ).loc main_v5_0) :=
  Cert.RefTransformIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point `t` writes back is block `t` of the reference's array. -/
theorem flushed7_eq (c : Dev nD) (t : Fin cfg0.N) :
    (dats m 0 c).flushed 7 t = ((cfg0.win 7).blk t).view.read (Elt Ideal) (G7 m c) := by
  rw [Value.flushed7]
  unfold out0_7 k0_pay5
  rw [View.canon_unit_zero hz]
  funext y
  rw [View.read_apply, cast_eq]
  refine Eq.trans ?_ (congrArg (G7 m c) (emb7 t y)).symm
  show k0_pay3 (k0_pay4 (View.ld (iblk m c 0 t) r0_0) (View.ld (iblk m c 1 t) r0_1) (View.ld (iblk m c 2 t) r0_2) (View.ld (iblk m c 3 t) r0_3) (View.ld (iblk m c 4 t) r0_3)) (View.ld (iblk m c 5 t) r0_3) (View.ld (iblk m c 6 t) r0_3) y = _
  rw [View.ld_unit_zero hz (S := S256x1024) _ (iblk m c 0 t), View.ld_unit_zero hz (S := S1024x1024) _ (iblk m c 1 t), View.ld_unit_zero hz (S := S256x1) _ (iblk m c 2 t), View.ld_unit_zero hz (S := S1x1024) _ (iblk m c 3 t), View.ld_unit_zero hz (S := S1x1024) _ (iblk m c 4 t), View.ld_unit_zero hz (S := S1x1024) _ (iblk m c 5 t), View.ld_unit_zero hz (S := S1x1024) _ (iblk m c 6 t)]
  obtain ⟨r, j, rfl⟩ : ∃ (r : Fin 256) (j : Fin 1024), y = ix2 r j := ⟨y 0, y 1, eq_ix2 y⟩
  unfold G7 Cert.RefTransformIdeal.Value.G7
  rw [refPre, b1]
  exact Cert.TransformRow.codes_eq _ _ _ _ _ _ _ _ _ _ _ _ _ r (row t r) (b0 m c t r) (b2 m c t r) (b3 m c t) (b4 m c t) (b5 m c t) (b6 m c t) j

/-- The blocks tile the array. -/
theorem cover7 (i : S1536x1024.Idx) : ∃ t : Fin cfg0.N, (cfg0.win 7).flush t = true ∧ i ∈ ((cfg0.win 7).blk t).view.set := by
  have hN : cfg0.N = 6 := N_0
  have h0 : (i 0 : Nat) < 1536 := (i 0).isLt
  let t : Fin cfg0.N := ⟨(i 0 : Nat) / 256, by omega⟩
  refine ⟨t, flush0_7 t, ?_⟩
  have h := ((cfg0.win 7).blk t).view.emb_mem_set (ix2 (⟨(i 0 : Nat) % 256, Nat.mod_lt _ (by decide)⟩ : Fin 256) (i 1))
  rw [emb7] at h
  have e : (ix2 (row t (⟨(i 0 : Nat) % 256, Nat.mod_lt _ (by decide)⟩ : Fin 256)) (i 1) : S1536x1024.Idx) = i := by
    refine (congrArg (fun z => ix2 z (i 1)) (Fin.ext ?_ : row t _ = i 0)).trans (eq_ix2 i).symm
    show 256 * ((i 0 : Nat) / 256) + (i 0 : Nat) % 256 = i 0
    omega
  exact e ▸ h

/-- The array after the run. -/
theorem final7 (c : Dev nD) : (dats m 0 c).arrAt 7 cfg0.N = G7 m c :=
  (dats m 0 c).arrAt_eq_of_cover 7 (G7 m c) (fun t _ => flushed7_eq m c t) cover7

/-- The scales of the reference, of device `c`'s argument arrays. -/
def G8 (c : Dev nD) : Buf (Elt Ideal) ((c : Thread nD τ).loc main_v5_1) :=
  Cert.RefTransformIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point `t` writes back is block `t` of the reference's array. -/
theorem flushed8_eq (c : Dev nD) (t : Fin cfg0.N) :
    (dats m 0 c).flushed 8 t = ((cfg0.win 8).blk t).view.read (Elt Ideal) (G8 m c) := by
  rw [Value.flushed8]
  unfold out0_8 k0_pay5
  rw [View.canon_unit_zero hz]
  funext y
  rw [View.read_apply, cast_eq]
  refine Eq.trans ?_ (congrArg (G8 m c) (emb8 t y)).symm
  show k0_pay2 (k0_pay4 (View.ld (iblk m c 0 t) r0_0) (View.ld (iblk m c 1 t) r0_1) (View.ld (iblk m c 2 t) r0_2) (View.ld (iblk m c 3 t) r0_3) (View.ld (iblk m c 4 t) r0_3)) (View.ld (iblk m c 5 t) r0_3) (View.ld (iblk m c 6 t) r0_3) y = _
  rw [View.ld_unit_zero hz (S := S256x1024) _ (iblk m c 0 t), View.ld_unit_zero hz (S := S1024x1024) _ (iblk m c 1 t), View.ld_unit_zero hz (S := S256x1) _ (iblk m c 2 t), View.ld_unit_zero hz (S := S1x1024) _ (iblk m c 3 t), View.ld_unit_zero hz (S := S1x1024) _ (iblk m c 4 t), View.ld_unit_zero hz (S := S1x1024) _ (iblk m c 5 t), View.ld_unit_zero hz (S := S1x1024) _ (iblk m c 6 t)]
  obtain ⟨r, j, rfl⟩ : ∃ (r : Fin 256) (j : Fin 1), y = ix2 r j := ⟨y 0, y 1, eq_ix2 y⟩
  obtain rfl : j = 0 := Subsingleton.elim _ _
  unfold G8 Cert.RefTransformIdeal.Value.G8
  rw [refPre, b1]
  exact Cert.TransformRow.scale_eq _ _ _ _ _ _ _ _ _ _ _ _ _ r (row t r) (b0 m c t r) (b2 m c t r) (b3 m c t) (b4 m c t) (b5 m c t) (b6 m c t)

/-- The blocks tile the array. -/
theorem cover8 (i : S1536x1.Idx) : ∃ t : Fin cfg0.N, (cfg0.win 8).flush t = true ∧ i ∈ ((cfg0.win 8).blk t).view.set := by
  have hN : cfg0.N = 6 := N_0
  have h0 : (i 0 : Nat) < 1536 := (i 0).isLt
  let t : Fin cfg0.N := ⟨(i 0 : Nat) / 256, by omega⟩
  refine ⟨t, flush0_8 t, ?_⟩
  have h := ((cfg0.win 8).blk t).view.emb_mem_set (ix2 (⟨(i 0 : Nat) % 256, Nat.mod_lt _ (by decide)⟩ : Fin 256) (i 1))
  rw [emb8] at h
  have e : (ix2 (row t (⟨(i 0 : Nat) % 256, Nat.mod_lt _ (by decide)⟩ : Fin 256)) (i 1) : S1536x1.Idx) = i := by
    refine (congrArg (fun z => ix2 z (i 1)) (Fin.ext ?_ : row t _ = i 0)).trans (eq_ix2 i).symm
    show 256 * ((i 0 : Nat) / 256) + (i 0 : Nat) % 256 = i 0
    omega
  exact e ▸ h

/-- The array after the run. -/
theorem final8 (c : Dev nD) : (dats m 0 c).arrAt 8 cfg0.N = G8 m c :=
  (dats m 0 c).arrAt_eq_of_cover 8 (G8 m c) (fun t _ => flushed8_eq m c t) cover8

end Cert.TransformFinal
-- ==== Proof.TransformValue.lean ====
/- Kernel against reference, the transform: both results. -/
module

public import proofs.«01_k».proof.Defs
public import proofs.«01_k».proof.Proof.TransformFinal

@[expose] public section

noncomputable section

namespace Cert.TransformValue

open Idealize.ShloMosaic Idealize.SL.Sem

/-- Over the extended reals the tiled transform and the whole-array reference end with the same codes and the same scales. -/
theorem algebraic : Cert.algebraic_TransformIdeal_RefTransformIdeal := by
  intro m g m' g' _ hag
  refine ⟨fun c => Cert.TransformFinal.G7 m c, fun c => Cert.TransformFinal.G8 m c, ?_, ?_⟩
  · refine (θ_run _ _ _).mono (fun r h c => ?_) (Cert.TransformIdeal.Value.run_blocks m g)
    obtain ⟨h7, h8, hk⟩ := h c
    exact ⟨h7.trans (Cert.TransformFinal.final7 m c), h8.trans (Cert.TransformFinal.final8 m c), hk⟩
  · refine (θ_run _ _ _).mono (fun r h c => ?_) (Cert.RefTransformIdeal.Value.run m' g')
    obtain ⟨h7, h8, hk⟩ := h c
    obtain ⟨e0, e1, e2, e3, e4, e5, e6⟩ := hag c
    rw [e0, e1, e2, e3, e4, e5, e6] at h7 h8
    exact ⟨h7, h8, hk⟩

end Cert.TransformValue
-- ==== Proof.PoolBody.lean ====
module

public import proofs.«01_k».proof.Proof.Gen.Pool.Frame
public import proofs.«01_k».proof.Proof.Gen.Pool.Skeleton
public import Idealize.ShloMosaic.Lib.Tactic

@[expose] public section

noncomputable section

namespace Cert.Pool.Body

open Cert.Pool Cert.Pool.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem chk_run (k : Nat) (hk : k < 4) (v : BitVec 32) (h : v.toNat ≤ 896) :
    ∀ a, (![k, (Scalar.indexCast v : Index).toNat, 0] : Fin 3 → Nat) a + S1x8x128.size a ≤ S4x904x128.size a := by
  have h' : (Scalar.indexCast v : Index).toNat ≤ 896 := h
  intro a; fin_cases a
  · show k + 1 ≤ 4; omega
  · show (Scalar.indexCast v : Index).toNat + 8 ≤ 904; omega
  · show 0 + 128 ≤ 128; omega

theorem chk_rst (v : BitVec 32) (h : v.toNat ≤ 896) :
    ∀ a, (![(Scalar.indexCast v : Index).toNat, 0] : Fin 2 → Nat) a + S8x128.size a ≤ S1544x128.size a := by
  have h' : (Scalar.indexCast v : Index).toNat ≤ 896 := h
  intro a; fin_cases a
  · show (Scalar.indexCast v : Index).toNat + 8 ≤ 1544; omega
  · show 0 + 128 ≤ 128; omega

structure Wit (c : Dev nD) (arg1 : Memref sig .tc .smem S13 .i32) (arg2 : Memref sig .tc .vmem S1536x1024 .fp8e4m3) (arg3 : Memref sig .tc .vmem S1536x1 .f32) (arg4 : Memref sig .tc .vmem S512x1024 .fp8e4m3) (arg5 : Memref sig .tc .vmem S1x50688 .f32) (arg6 : Memref sig .tc .vmem S1x50688 .f32) (arg7 : Memref sig .tc .vmem S12x50368 .f32) (arg8 : Memref sig .tc .vmem S1x12 .f32) (arg9 : Memref sig .tc .vmem S1x50368 .f32) (arg10 : Memref sig .tc .vmem S1x1 .f32) (arg11 : Memref sig .tc .vmem S12x50368 .i8) (arg12 : Memref sig .tc .vmem S1x12 .f32) (arg13 : Memref sig .tc .vmem S16x50688 .f32) (arg14 : Memref sig .tc .vmem S1x50688 .f32) (arg15 : Memref sig .tc .vmem S4x904x128 .f32) (arg16 : Memref sig .tc .vmem S1536x128 .f32) (arg17 : Memref sig .tc .vmem S1544x128 .f32) (arg18 : Memref sig .tc .vmem S16x512 .f32) (arg19 : Memref sig .tc .vmem S1x512 .f32) where
  w7 : Bf (F := F) c arg7
  w8 : Bf (F := F) c arg8
  w9 : Bf (F := F) c arg9
  w10 : Bf (F := F) c arg10
  w11 : Bf (F := F) c arg11
  w12 : Bf (F := F) c arg12
  w13 : Bf (F := F) c arg13
  w14 : Bf (F := F) c arg14
  w15 : Bf (F := F) c arg15
  w16 : Bf (F := F) c arg16
  w17 : Bf (F := F) c arg17
  w18 : Bf (F := F) c arg18
  w19 : Bf (F := F) c arg19

set_option maxRecDepth 16384 in
set_option sl_exec.resultNames true in
noncomputable def bodyRun (c : Dev nD) (i : grid0.Coords) (arg1 : Memref sig .tc .smem S13 .i32) (harg1 : arg1.IsWhole) (arg2 : Memref sig .tc .vmem S1536x1024 .fp8e4m3) (harg2 : arg2.IsWhole) (arg3 : Memref sig .tc .vmem S1536x1 .f32) (harg3 : arg3.IsWhole) (arg4 : Memref sig .tc .vmem S512x1024 .fp8e4m3) (harg4 : arg4.IsWhole) (arg5 : Memref sig .tc .vmem S1x50688 .f32) (harg5 : arg5.IsWhole) (arg6 : Memref sig .tc .vmem S1x50688 .f32) (harg6 : arg6.IsWhole) (arg7 : Memref sig .tc .vmem S12x50368 .f32) (harg7 : arg7.IsWhole) (arg8 : Memref sig .tc .vmem S1x12 .f32) (harg8 : arg8.IsWhole) (arg9 : Memref sig .tc .vmem S1x50368 .f32) (harg9 : arg9.IsWhole) (arg10 : Memref sig .tc .vmem S1x1 .f32) (harg10 : arg10.IsWhole) (arg11 : Memref sig .tc .vmem S12x50368 .i8) (harg11 : arg11.IsWhole) (arg12 : Memref sig .tc .vmem S1x12 .f32) (harg12 : arg12.IsWhole) (arg13 : Memref sig .tc .vmem S16x50688 .f32) (harg13 : arg13.IsWhole) (arg14 : Memref sig .tc .vmem S1x50688 .f32) (harg14 : arg14.IsWhole) (arg15 : Memref sig .tc .vmem S4x904x128 .f32) (harg15 : arg15.IsWhole) (arg16 : Memref sig .tc .vmem S1536x128 .f32) (harg16 : arg16.IsWhole) (arg17 : Memref sig .tc .vmem S1544x128 .f32) (harg17 : arg17.IsWhole) (arg18 : Memref sig .tc .vmem S16x512 .f32) (harg18 : arg18.IsWhole) (arg19 : Memref sig .tc .vmem S1x512 .f32) (harg19 : arg19.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hcu : ∀ y, (arg1.view.read (Elt F) f1 y : BitVec 32).toNat ≤ 896) :
    { W : Wit (F := F) c arg1 arg2 arg3 arg4 arg5 arg6 arg7 arg8 arg9 arg10 arg11 arg12 arg13 arg14 arg15 arg16 arg17 arg18 arg19 //
      ∀ (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19
          ∗ (iprop(pt c arg1 f1 ∗ pt c arg2 f2 ∗ pt c arg3 f3 ∗ pt c arg4 f4 ∗ pt c arg5 f5 ∗ pt c arg6 f6 ∗ pt c arg7 (W.w7) ∗ pt c arg8 (W.w8) ∗ pt c arg9 (W.w9) ∗ pt c arg10 (W.w10) ∗ pt c arg11 (W.w11) ∗ pt c arg12 (W.w12) ∗ pt c arg13 (W.w13) ∗ pt c arg14 (W.w14) ∗ pt c arg15 (W.w15) ∗ pt c arg16 (W.w16) ∗ pt c arg17 (W.w17) ∗ pt c arg18 (W.w18) ∗ pt c arg19 (W.w19)) -∗ Q ⟨⟩))
        ⊢ wp frame (wpE (defs₀ (F := F)) Variants.none c none) E
            (cc0_pool i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q } := by
  refine ⟨⟨?_, ?_, ?_, ?_, ?_, ?_, ?_, ?_, ?_, ?_, ?_, ?_, ?_⟩, fun E Q => ?run⟩
  case run =>
    iintro ⟨H1, H2, H3, H4, H5, H6, H7, H8, H9, H10, H11, H12, H13, H14, H15, H16, H17, H18, H19, Hk⟩
    sl_exec_parts (disch := first | exact chk_run _ (by omega) _ (hcu _) | exact fun _ => chk_rst _ (hcu _))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.Pool.Body

end
-- ==== Proof.PoolFrame.lean ====
module

public import proofs.«01_k».proof.Proof.PoolBody
public import proofs.«01_k».proof.Proof.Gen.Pool.Points
public import Idealize.ShloMosaic.Lib.Pipeline.Frame

/-! The frame of `Pool`: from offsets `cu_seqlens` that are at most 896 the program terminates without fault, leaves its
arguments as they were and every semaphore at zero. The body's run (`Body.bodyRun`) is applied at every grid point; only
the offsets' window is tracked (their bound is what the dynamic reads and writes need), every other window and every
scratch buffer is handed on at some contents. -/

@[expose] public section

noncomputable section

namespace Cert.Pool.Run

open Cert.Pool Cert.Pool.Gen Cert.Pool.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref owned at `X` is its buffer at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt; rw [h.set_eq_univ]

/-- The windows whose contents are not tracked: all but the offsets'. -/
def forgets : Fin 12 → Bool := fun | 0 => false | 1 => true | 2 => true | 3 => true | 4 => true | 5 => true | 6 => true | 7 => true | 8 => true | 9 => true | 10 => true | 11 => true | ⟨_ + 12, h⟩ => absurd h (Nat.not_lt.2 (Nat.le_add_left _ _))

/-- The proof data on core `c`: the arrays as the region finds them, the offsets' block left in place, the other windows
    unnamed; the invariant the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Pipeline.Dat.unnamed (cfg := cfg0) 1 t
    | ⟨2, _⟩ => Pipeline.Dat.unnamed (cfg := cfg0) 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨_ + 12, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-- The offsets' block, whole at every point, holds the words of the argument: each at most 896. -/
theorem iblk_le (h : ∀ (c : Dev nD) y, (m ((c : Thread nD τ).loc main_arg0) y : BitVec 32).toNat ≤ 896) (c : Dev nD) (t : Fin cfg0.N)
    (y : S13.Idx) : (iblk m c 0 t y : BitVec 32).toNat ≤ 896 := by
  have e : V m c main_arg0 = m ((c : Thread nD τ).loc main_arg0) := V_main_arg0 m c
  unfold iblk
  rw [View.read_apply]
  have := h c
  rw [← e] at this
  exact this _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- The body at a point, by its run. -/
theorem sound_body (h : ∀ (c : Dev nD) y, (m ((c : Thread nD τ).loc main_arg0) y : BitVec 32).toNat ≤ 896) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after0_0]
  unfold Pipeline.ΦA
  rw [scopedRest0_eq]
  simp only [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4)), owns_pt c (st0_5 t) (hstage0_5 ((cfg0.slots t 5).cast nbuf0_5)), owns_pt c (st0_6 t) (hstage0_6 ((cfg0.slots t 6).cast nbuf0_6)), owns_pt c (st0_7 t) (hstage0_7 ((cfg0.slots t 7).cast nbuf0_7)), owns_pt c (st0_8 t) (hstage0_8 ((cfg0.slots t 8).cast nbuf0_8)), owns_pt c (st0_9 t) (hstage0_9 ((cfg0.slots t 9).cast nbuf0_9)), owns_pt c (st0_10 t) (hstage0_10 ((cfg0.slots t 10).cast nbuf0_10)), owns_pt c (st0_11 t) (hstage0_11 ((cfg0.slots t 11).cast nbuf0_11))]
  iintro ⟨⟨⟨⟨%g13, S13⟩, ⟨%g14, S14⟩, ⟨%g15, S15⟩, ⟨%g16, S16⟩, ⟨%g17, S17⟩, ⟨%g18, S18⟩, ⟨%g19, S19⟩⟩, Hg⟩, Ho, ⟨%d0, %f1, %hf1, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%X8, %f8, -, H8⟩, ⟨%X9, %f9, -, H9⟩, ⟨%X10, %f10, -, H10⟩, ⟨%X11, %f11, -, H11⟩, ⟨%X12, %f12, -, H12⟩⟩
  iapply ((bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    f1 f2 f3 f4 f5 f6 f7 f8 f9 f10 f11 f12 g13 g14 g15 g16 g17 g18 g19
    (fun y => by rw [hf1]; exact iblk_le m h c t y)).2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S13]; · iexact S13
  isplitl [S14]; · iexact S14
  isplitl [S15]; · iexact S15
  isplitl [S16]; · iexact S16
  isplitl [S17]; · iexact S17
  isplitl [S18]; · iexact S18
  isplitl [S19]; · iexact S19
  iintro ⟨H1, H2, H3, H4, H5, H6, H7, H8, H9, H10, H11, H12, S13, S14, S15, S16, S17, S18, S19⟩
  isplitl [S13 S14 S15 S16 S17 S18 S19 Hg]
  · isplitl [S13 S14 S15 S16 S17 S18 S19]
    · isplitl [S13]; · iexists _; iexact S13
      isplitl [S14]; · iexists _; iexact S14
      isplitl [S15]; · iexists _; iexact S15
      isplitl [S16]; · iexists _; iexact S16
      isplitl [S17]; · iexists _; iexact S17
      isplitl [S18]; · iexists _; iexact S18
      iexists _; iexact S19
    · iexact Hg
  isplitl [Ho]; · iexact Ho
  isplitl [H1]
  · iexists f1; isplitr; · ipureintro; exact hf1
    iexact H1
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (h : ∀ (c : Dev nD) y, (m ((c : Thread nD τ).loc main_arg0) y : BitVec 32).toNat ≤ 896) (c : Dev nD) :
    BodyObligationLoose (dats (F := F) m 0 c) (defs₀ (F := F)) Variants.none () Set.univ forgets := fun t => by
  rw [bigSep_W0, bigSep_W0, defs₀_row]
  exact triple_restated (sound_body m h c t) rfl .rfl fun _ => .rfl

set_option backward.isDefEq.respectTransparency.types false in
/-- Every execution terminates, at a state where the arrays of the untracked windows are unnamed and the rest is as found,
    every semaphore at zero. -/
theorem run_main (h : ∀ (c : Dev nD) y, (m ((c : Thread nD τ).loc main_arg0) y : BitVec 32).toNat ≤ 896) :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m h) (hshare := fun c => (dats m 0 c).share_full fun _ => rfl)
    (howed := fun _ _ => rfl) (V := V m) (hmain := hmain m Variants.none) (hA := A_eq m) (hΦ := fun _ _ => rfl)

/-- The arguments after the run, and the counters. -/
theorem frame (h : ∀ (c : Dev nD) y, (m ((c : Thread nD τ).loc main_arg0) y : BitVec 32).toNat ≤ 896) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ h)

end Cert.Pool.Run

end
-- ==== Proof.PoolIdealBody.lean ====
module

public import proofs.«01_k».proof.Proof.Gen.PoolIdeal.Frame
public import proofs.«01_k».proof.Proof.Gen.PoolIdeal.Skeleton
public import Idealize.ShloMosaic.Lib.Tactic

@[expose] public section

noncomputable section

namespace Cert.PoolIdeal.Body

open Cert.PoolIdeal Cert.PoolIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem chk_run (k : Nat) (hk : k < 4) (v : BitVec 32) (h : v.toNat ≤ 896) :
    ∀ a, (![k, (Scalar.indexCast v : Index).toNat, 0] : Fin 3 → Nat) a + S1x8x128.size a ≤ S4x904x128.size a := by
  have h' : (Scalar.indexCast v : Index).toNat ≤ 896 := h
  intro a; fin_cases a
  · show k + 1 ≤ 4; omega
  · show (Scalar.indexCast v : Index).toNat + 8 ≤ 904; omega
  · show 0 + 128 ≤ 128; omega

theorem chk_rst (v : BitVec 32) (h : v.toNat ≤ 896) :
    ∀ a, (![(Scalar.indexCast v : Index).toNat, 0] : Fin 2 → Nat) a + S8x128.size a ≤ S1544x128.size a := by
  have h' : (Scalar.indexCast v : Index).toNat ≤ 896 := h
  intro a; fin_cases a
  · show (Scalar.indexCast v : Index).toNat + 8 ≤ 1544; omega
  · show 0 + 128 ≤ 128; omega

structure Wit (c : Dev nD) (arg1 : Memref sig .tc .smem S13 .i32) (arg2 : Memref sig .tc .vmem S1536x1024 .fp8e4m3) (arg3 : Memref sig .tc .vmem S1536x1 .f32) (arg4 : Memref sig .tc .vmem S512x1024 .fp8e4m3) (arg5 : Memref sig .tc .vmem S1x50688 .f32) (arg6 : Memref sig .tc .vmem S1x50688 .f32) (arg7 : Memref sig .tc .vmem S12x50368 .f32) (arg8 : Memref sig .tc .vmem S1x12 .f32) (arg9 : Memref sig .tc .vmem S1x50368 .f32) (arg10 : Memref sig .tc .vmem S1x1 .f32) (arg11 : Memref sig .tc .vmem S12x50368 .i8) (arg12 : Memref sig .tc .vmem S1x12 .f32) (arg13 : Memref sig .tc .vmem S16x50688 .f32) (arg14 : Memref sig .tc .vmem S1x50688 .f32) (arg15 : Memref sig .tc .vmem S4x904x128 .f32) (arg16 : Memref sig .tc .vmem S1536x128 .f32) (arg17 : Memref sig .tc .vmem S1544x128 .f32) (arg18 : Memref sig .tc .vmem S16x512 .f32) (arg19 : Memref sig .tc .vmem S1x512 .f32) where
  w7 : Bf (F := F) c arg7
  w8 : Bf (F := F) c arg8
  w9 : Bf (F := F) c arg9
  w10 : Bf (F := F) c arg10
  w11 : Bf (F := F) c arg11
  w12 : Bf (F := F) c arg12
  w13 : Bf (F := F) c arg13
  w14 : Bf (F := F) c arg14
  w15 : Bf (F := F) c arg15
  w16 : Bf (F := F) c arg16
  w17 : Bf (F := F) c arg17
  w18 : Bf (F := F) c arg18
  w19 : Bf (F := F) c arg19

set_option maxRecDepth 16384 in
set_option sl_exec.resultNames true in
noncomputable def bodyRun (c : Dev nD) (i : grid0.Coords) (arg1 : Memref sig .tc .smem S13 .i32) (harg1 : arg1.IsWhole) (arg2 : Memref sig .tc .vmem S1536x1024 .fp8e4m3) (harg2 : arg2.IsWhole) (arg3 : Memref sig .tc .vmem S1536x1 .f32) (harg3 : arg3.IsWhole) (arg4 : Memref sig .tc .vmem S512x1024 .fp8e4m3) (harg4 : arg4.IsWhole) (arg5 : Memref sig .tc .vmem S1x50688 .f32) (harg5 : arg5.IsWhole) (arg6 : Memref sig .tc .vmem S1x50688 .f32) (harg6 : arg6.IsWhole) (arg7 : Memref sig .tc .vmem S12x50368 .f32) (harg7 : arg7.IsWhole) (arg8 : Memref sig .tc .vmem S1x12 .f32) (harg8 : arg8.IsWhole) (arg9 : Memref sig .tc .vmem S1x50368 .f32) (harg9 : arg9.IsWhole) (arg10 : Memref sig .tc .vmem S1x1 .f32) (harg10 : arg10.IsWhole) (arg11 : Memref sig .tc .vmem S12x50368 .i8) (harg11 : arg11.IsWhole) (arg12 : Memref sig .tc .vmem S1x12 .f32) (harg12 : arg12.IsWhole) (arg13 : Memref sig .tc .vmem S16x50688 .f32) (harg13 : arg13.IsWhole) (arg14 : Memref sig .tc .vmem S1x50688 .f32) (harg14 : arg14.IsWhole) (arg15 : Memref sig .tc .vmem S4x904x128 .f32) (harg15 : arg15.IsWhole) (arg16 : Memref sig .tc .vmem S1536x128 .f32) (harg16 : arg16.IsWhole) (arg17 : Memref sig .tc .vmem S1544x128 .f32) (harg17 : arg17.IsWhole) (arg18 : Memref sig .tc .vmem S16x512 .f32) (harg18 : arg18.IsWhole) (arg19 : Memref sig .tc .vmem S1x512 .f32) (harg19 : arg19.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hcu : ∀ y, (arg1.view.read (Elt F) f1 y : BitVec 32).toNat ≤ 896) :
    { W : Wit (F := F) c arg1 arg2 arg3 arg4 arg5 arg6 arg7 arg8 arg9 arg10 arg11 arg12 arg13 arg14 arg15 arg16 arg17 arg18 arg19 //
      ∀ (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19
          ∗ (iprop(pt c arg1 f1 ∗ pt c arg2 f2 ∗ pt c arg3 f3 ∗ pt c arg4 f4 ∗ pt c arg5 f5 ∗ pt c arg6 f6 ∗ pt c arg7 (W.w7) ∗ pt c arg8 (W.w8) ∗ pt c arg9 (W.w9) ∗ pt c arg10 (W.w10) ∗ pt c arg11 (W.w11) ∗ pt c arg12 (W.w12) ∗ pt c arg13 (W.w13) ∗ pt c arg14 (W.w14) ∗ pt c arg15 (W.w15) ∗ pt c arg16 (W.w16) ∗ pt c arg17 (W.w17) ∗ pt c arg18 (W.w18) ∗ pt c arg19 (W.w19)) -∗ Q ⟨⟩))
        ⊢ wp frame (wpE (defs₀ (F := F)) Variants.none c none) E
            (cc0_pool i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q } := by
  refine ⟨⟨?_, ?_, ?_, ?_, ?_, ?_, ?_, ?_, ?_, ?_, ?_, ?_, ?_⟩, fun E Q => ?run⟩
  case run =>
    iintro ⟨H1, H2, H3, H4, H5, H6, H7, H8, H9, H10, H11, H12, H13, H14, H15, H16, H17, H18, H19, Hk⟩
    sl_exec_parts (disch := first | exact chk_run _ (by omega) _ (hcu _) | exact fun _ => chk_rst _ (hcu _))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.PoolIdeal.Body

end
-- ==== Proof.PoolIdealFrame.lean ====
module

public import proofs.«01_k».proof.Proof.PoolIdealBody
public import proofs.«01_k».proof.Proof.Gen.PoolIdeal.Points
public import Idealize.ShloMosaic.Lib.Pipeline.Frame

/-! The frame of `PoolIdeal`: from offsets `cu_seqlens` that are at most 896 the program terminates without fault, leaves its
arguments as they were and every semaphore at zero. The body's run (`Body.bodyRun`) is applied at every grid point; only
the offsets' window is tracked (their bound is what the dynamic reads and writes need), every other window and every
scratch buffer is handed on at some contents. -/

@[expose] public section

noncomputable section

namespace Cert.PoolIdeal.Run

open Cert.PoolIdeal Cert.PoolIdeal.Gen Cert.PoolIdeal.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole memref owned at `X` is its buffer at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt; rw [h.set_eq_univ]

/-- The windows whose contents are not tracked: all but the offsets'. -/
def forgets : Fin 12 → Bool := fun | 0 => false | 1 => true | 2 => true | 3 => true | 4 => true | 5 => true | 6 => true | 7 => true | 8 => true | 9 => true | 10 => true | 11 => true | ⟨_ + 12, h⟩ => absurd h (Nat.not_lt.2 (Nat.le_add_left _ _))

/-- The proof data on core `c`: the arrays as the region finds them, the offsets' block left in place, the other windows
    unnamed; the invariant the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => Pipeline.Dat.unnamed (cfg := cfg0) 1 t
    | ⟨2, _⟩ => Pipeline.Dat.unnamed (cfg := cfg0) 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨_ + 12, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-- The offsets' block, whole at every point, holds the words of the argument: each at most 896. -/
theorem iblk_le (h : ∀ (c : Dev nD) y, (m ((c : Thread nD τ).loc main_arg0) y : BitVec 32).toNat ≤ 896) (c : Dev nD) (t : Fin cfg0.N)
    (y : S13.Idx) : (iblk m c 0 t y : BitVec 32).toNat ≤ 896 := by
  have e : V m c main_arg0 = m ((c : Thread nD τ).loc main_arg0) := V_main_arg0 m c
  unfold iblk
  rw [View.read_apply]
  have := h c
  rw [← e] at this
  exact this _

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X))

/-- The body at a point, by its run. -/
theorem sound_body (h : ∀ (c : Dev nD) y, (m ((c : Thread nD τ).loc main_arg0) y : BitVec 32).toNat ≤ 896) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after0_0]
  unfold Pipeline.ΦA
  rw [scopedRest0_eq]
  simp only [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4)), owns_pt c (st0_5 t) (hstage0_5 ((cfg0.slots t 5).cast nbuf0_5)), owns_pt c (st0_6 t) (hstage0_6 ((cfg0.slots t 6).cast nbuf0_6)), owns_pt c (st0_7 t) (hstage0_7 ((cfg0.slots t 7).cast nbuf0_7)), owns_pt c (st0_8 t) (hstage0_8 ((cfg0.slots t 8).cast nbuf0_8)), owns_pt c (st0_9 t) (hstage0_9 ((cfg0.slots t 9).cast nbuf0_9)), owns_pt c (st0_10 t) (hstage0_10 ((cfg0.slots t 10).cast nbuf0_10)), owns_pt c (st0_11 t) (hstage0_11 ((cfg0.slots t 11).cast nbuf0_11))]
  iintro ⟨⟨⟨⟨%g13, S13⟩, ⟨%g14, S14⟩, ⟨%g15, S15⟩, ⟨%g16, S16⟩, ⟨%g17, S17⟩, ⟨%g18, S18⟩, ⟨%g19, S19⟩⟩, Hg⟩, Ho, ⟨%d0, %f1, %hf1, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩, ⟨%X8, %f8, -, H8⟩, ⟨%X9, %f9, -, H9⟩, ⟨%X10, %f10, -, H10⟩, ⟨%X11, %f11, -, H11⟩, ⟨%X12, %f12, -, H12⟩⟩
  iapply ((bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    f1 f2 f3 f4 f5 f6 f7 f8 f9 f10 f11 f12 g13 g14 g15 g16 g17 g18 g19
    (fun y => by rw [hf1]; exact iblk_le m h c t y)).2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S13]; · iexact S13
  isplitl [S14]; · iexact S14
  isplitl [S15]; · iexact S15
  isplitl [S16]; · iexact S16
  isplitl [S17]; · iexact S17
  isplitl [S18]; · iexact S18
  isplitl [S19]; · iexact S19
  iintro ⟨H1, H2, H3, H4, H5, H6, H7, H8, H9, H10, H11, H12, S13, S14, S15, S16, S17, S18, S19⟩
  isplitl [S13 S14 S15 S16 S17 S18 S19 Hg]
  · isplitl [S13 S14 S15 S16 S17 S18 S19]
    · isplitl [S13]; · iexists _; iexact S13
      isplitl [S14]; · iexists _; iexact S14
      isplitl [S15]; · iexists _; iexact S15
      isplitl [S16]; · iexists _; iexact S16
      isplitl [S17]; · iexists _; iexact S17
      isplitl [S18]; · iexists _; iexact S18
      iexists _; iexact S19
    · iexact Hg
  isplitl [Ho]; · iexact Ho
  isplitl [H1]
  · iexists f1; isplitr; · ipureintro; exact hf1
    iexact H1
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (h : ∀ (c : Dev nD) y, (m ((c : Thread nD τ).loc main_arg0) y : BitVec 32).toNat ≤ 896) (c : Dev nD) :
    BodyObligationLoose (dats (F := F) m 0 c) (defs₀ (F := F)) Variants.none () Set.univ forgets := fun t => by
  rw [bigSep_W0, bigSep_W0, defs₀_row]
  exact triple_restated (sound_body m h c t) rfl .rfl fun _ => .rfl

set_option backward.isDefEq.respectTransparency.types false in
/-- Every execution terminates, at a state where the arrays of the untracked windows are unnamed and the rest is as found,
    every semaphore at zero. -/
theorem run_main (h : ∀ (c : Dev nD) y, (m ((c : Thread nD τ).loc main_arg0) y : BitVec 32).toNat ≤ 896) :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m h) (hshare := fun c => (dats m 0 c).share_full fun _ => rfl)
    (howed := fun _ _ => rfl) (V := V m) (hmain := hmain m Variants.none) (hA := A_eq m) (hΦ := fun _ _ => rfl)

/-- The arguments after the run, and the counters. -/
theorem frame (h : ∀ (c : Dev nD) y, (m ((c : Thread nD τ).loc main_arg0) y : BitVec 32).toNat ≤ 896) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨
      (h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ h)

end Cert.PoolIdeal.Run

end
-- ==== Proof.Packed.lean ====
/- What the precondition `docs_packed` says of the document boundaries: the thirteen words of `cu_seqlens` are at most
   896 and ascend. Stated for the argument array alone, at either instance. -/
module

public import proofs.«01_k».proof.Defs
public import proofs.«01_k».proof.Proof.Gen.Pre_docs_packed
public import Idealize.ShloMosaic.Lib.Pointwise

@[expose] public section

namespace Cert.Packed

open Idealize.ShloMosaic

variable {F : FTy → Type} [FloatOps F] [Cert.Pre_docs_packed.Facts]

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- Document `d` starts at word `d` and ends at word `d + 1`: the boundaries ascend and the last is at most 896. -/
theorem step {cu : IVec Cert.Pre_docs_packed.S13 32} {a1 a2 a3 a4 a5}
    (h : Cert.Pre_docs_packed.fn (F := F) cu a1 a2 a3 a4 a5 = fun _ => 1#1) (d : Fin 12) :
    (cu (ix1 d.castSucc) : BitVec 32).toNat ≤ (cu (ix1 d.succ) : BitVec 32).toNat ∧ (cu (ix1 d.succ) : BitVec 32).toNat ≤ 896 := by
  have e := congrFun h (ix1 d)
  simp only [Cert.Pre_docs_packed.fn, andi, cmpi, broadcastInDim, constantI, IntOp.cmpi, andi_ofBool, ofBool_eq_one,
    Bool.and_eq_true, extractStridedSlice] at e
  obtain ⟨⟨h0, h1⟩, h2⟩ := e
  have hs : ∀ f : Cert.Pre_docs_packed.S13.Idx, ∀ k : Fin 13, (f 0).val = k.val → f = ix1 k := fun f k hk => by
    ext i; fin_cases i; exact hk
  have e0 := hs (fun a => ⟨(![0] : Fin 1 → ℕ) a + (ix1 d (Fin.cast rfl a)).val, by fin_cases a; show 0 + d.val < 13; omega⟩) d.castSucc
    (by show 0 + d.val = d.val; omega)
  have e1 := hs (fun a => ⟨(![1] : Fin 1 → ℕ) a + (ix1 d (Fin.cast rfl a)).val, by fin_cases a; show 1 + d.val < 13; omega⟩) d.succ
    (by show 1 + d.val = d.val + 1; omega)
  have h0 := (congrArg (fun z => (0#32).sle (cu z)) e0).symm.trans h0
  have h1 := (congrArg₂ (fun z w => (cu z).sle (cu w)) e0 e1).symm.trans h1
  have h2 := (congrArg (fun z => (cu z).sle 896#32) e1).symm.trans h2
  simp only [BitVec.sle, BitVec.slt, decide_eq_true_eq, BitVec.toInt, BitVec.toNat_ofNat] at h0 h1 h2
  omega

/-- Every boundary is at most 896. -/
theorem le {cu : IVec Cert.Pre_docs_packed.S13 32} {a1 a2 a3 a4 a5}
    (h : Cert.Pre_docs_packed.fn (F := F) cu a1 a2 a3 a4 a5 = fun _ => 1#1) (y) :
    (cu y : BitVec 32).toNat ≤ 896 := by
  obtain ⟨k, rfl⟩ : ∃ k : Fin 13, y = ix1 k := ⟨y 0, by ext i; fin_cases i; rfl⟩
  refine Fin.cases ?_ (fun d => (step h d).2) k
  exact (step h 0).1.trans (step h 0).2

end Cert.Packed
-- ==== Proof.PoolModel.lean ====
/- One grid point of the pool, stated as a recursion. The body is unrolled: 112 blocks of eight rows by four lane groups of
   a running maximum, each stored to the running buffer, then 48 reads of that buffer. Here the same vectors are given by
   recursion on the block (`runV`), the stores as a list by recursion (`runL`), the reads by document and lane group
   (`rowV`), and `H15_eq`, `H13_eq`, … say that the run's own terms are these. -/
module

public import proofs.«01_k».proof.Proof.PoolIdealBody

@[expose] public section

noncomputable section

namespace Cert.PoolIdeal.Model

open Cert.PoolIdeal Cert.PoolIdeal.Gen Cert.PoolIdeal.Body
open Idealize.ShloMosaic Idealize.ShloMosaic.TcCoe Idealize.ShloMosaic.Tactic

variable {F : FTy → Type} [FloatOps F]

/-! ### Shape facts at a general offset -/

theorem sl8 {g j : ℕ} (hg : g < 112) (hj : j < 4) : S896x512.Slices ![8 * g, 128 * j] S8x128 :=
  ⟨rfl, fun a => by fin_cases a <;> [show 8 * g + 8 ≤ 896; show 128 * j + 128 ≤ 512] <;> omega⟩

theorem inb8 {g n : ℕ} (hg : 8 * g + 8 ≤ n) :
    ∀ a, (![8 * g, 0] : Fin 2 → ℕ) a + S8x128.size a ≤ (⟨2, ![n, 128]⟩ : Shape).size a := fun a => by
  fin_cases a <;> [show 8 * g + 8 ≤ n; show 0 + 128 ≤ 128] <;> omega

theorem inbP {g j : ℕ} (hg : g < 112) (hj : j < 4) :
    ∀ a, (![j, 8 * g + 8, 0] : Fin 3 → ℕ) a + S1x8x128.size a ≤ S4x904x128.size a := fun a => by
  fin_cases a <;> [show j + 1 ≤ 4; show 8 * g + 8 + 8 ≤ 904; show 0 + 128 ≤ 128] <;> omega

theorem inbW {k : ℕ} (hk : k < 13) : ∀ a, (![k] : Fin 1 → ℕ) a + S1.size a ≤ S13.size a := fun a => by
  fin_cases a; show k + 1 ≤ 13; omega

/-! ### The running maximum -/

/-- The running maximum of lane group `j` after block `g`: reset where `R` is minus infinity, joined with the block's
    scaled products. -/
def runV (A : FVec F S896x512 .f32) (Z R : (g : ℕ) → g < 112 → FVec F S8x128 .f32) (E : FVec F S8x128 .f32)
    (j : ℕ) (hj : j < 4) (g : ℕ) : g < 112 → FVec F S8x128 .f32 :=
  Nat.rec (motive := fun g => g < 112 → FVec F S8x128 .f32)
    (fun h => maximumf (minimumf (broadcast S8x128 (FloatOps.ofBits .f32 0xFF800000#32)) (R 0 h))
      (mulf (mulf (extractStridedSlice S8x128 ![8 * 0, 128 * j] A (sl8 h hj)) (Z 0 h)) E))
    (fun g ih h => maximumf (minimumf (ih (Nat.lt_of_succ_lt h)) (R (g + 1) h))
      (mulf (mulf (extractStridedSlice S8x128 ![8 * (g + 1), 128 * j] A (sl8 h hj)) (Z (g + 1) h)) E))
    g

/-- The store of lane group `j`'s running maximum after block `g`: rows `8 g + 8` to `8 g + 15` of the running buffer. -/
def runP (A : FVec F S896x512 .f32) (Z R : (g : ℕ) → g < 112 → FVec F S8x128 .f32) (E : (j : ℕ) → j < 4 → FVec F S8x128 .f32)
    (g : ℕ) (hg : g < 112) (j : ℕ) (hj : j < 4) : View.Piece (Elt F) S4x904x128 .f32 :=
  ⟨Rect.unit ![j, 8 * g + 8, 0] S1x8x128.size (inbP hg hj),
    (shapeCast S1x8x128 (runV A Z R (E j hj) j hj g hg) shapeCasts_S8x128_S1x8x128 : S1x8x128.Idx → F .f32)⟩

/-- The stores of the first `n` blocks, last first. -/
def runL (A : FVec F S896x512 .f32) (Z R : (g : ℕ) → g < 112 → FVec F S8x128 .f32) (E : (j : ℕ) → j < 4 → FVec F S8x128 .f32)
    (n : ℕ) : n ≤ 112 → List (View.Piece (Elt F) S4x904x128 .f32) :=
  Nat.rec (motive := fun n => n ≤ 112 → List (View.Piece (Elt F) S4x904x128 .f32)) (fun _ => [])
    (fun g ih h => runP A Z R E g h 3 (by decide) :: runP A Z R E g h 2 (by decide) :: runP A Z R E g h 1 (by decide)
      :: runP A Z R E g h 0 (by decide) :: ih (Nat.le_of_succ_le h)) n

section run
variable (c : Dev nD) (i : grid0.Coords) (arg1 : Memref sig .tc .smem S13 .i32) (arg2 : Memref sig .tc .vmem S1536x1024 .fp8e4m3)
  (arg3 : Memref sig .tc .vmem S1536x1 .f32) (arg4 : Memref sig .tc .vmem S512x1024 .fp8e4m3)
  (arg5 : Memref sig .tc .vmem S1x50688 .f32) (arg6 : Memref sig .tc .vmem S1x50688 .f32) (arg15 : Memref sig .tc .vmem S4x904x128 .f32)
  (arg16 : Memref sig .tc .vmem S1536x128 .f32) (arg17 : Memref sig .tc .vmem S1544x128 .f32)
  (arg18 : Memref sig .tc .vmem S16x512 .f32) (arg19 : Memref sig .tc .vmem S1x512 .f32)
  (f1 : Bf (F := F) c arg1) (f2 : Bf (F := F) c arg2) (f3 : Bf (F := F) c arg3) (f4 : Bf (F := F) c arg4)
  (f5 : Bf (F := F) c arg5) (f6 : Bf (F := F) c arg6) (f15 : Bf (F := F) c arg15) (f16 : Bf (F := F) c arg16) (f17 : Bf (F := F) c arg17)
  (f18 : Bf (F := F) c arg18) (f19 : Bf (F := F) c arg19)
  (hcu : ∀ y, (arg1.view.read (Elt F) f1 y : BitVec 32).toNat ≤ 896)
  (hE : ∀ j, j < 4 → ∀ a, k0_off13 i (BitVec.ofNat 32 (128 * j)) a + S1x128.size a ≤ S1x50688.size a)

/-- Word `k` of the boundaries. -/
def wd (k : ℕ) (hk : k < 13) : BitVec 32 :=
  View.readAt (Elt F) arg1.view (Rect.unit (s := S13) ![k] S1.size (inbW hk)).toLoadRect f1 (Shape.Idx.first (show 0 < S1.numel by decide))

/-- The products of the point: the first 896 rows of codes with the point's 512 vocabulary rows. -/
def Av : FVec F S896x512 .f32 := bodyRun.sl.v28 c arg2 arg4 f2 f4

/-- The scales of lane group `j`. -/
def Ev (j : ℕ) (hj : j < 4) : FVec F S8x128 .f32 :=
  broadcastTo S8x128 (shapeCast S1x128
    (View.readAt (Elt F) arg5.view (Rect.unit (s := S1x50688) (k0_off13 i (BitVec.ofNat 32 (128 * j))) S1x128.size (hE j hj)).toLoadRect f5)
    shapeCasts_S1x128_S1x128) broadcasts_S1x128_S8x128

/-- The reset rows' stores, last first: minus infinity over eight rows from each of the first `n` boundaries, over plus
    infinity everywhere. -/
def rstL (n : ℕ) : n ≤ 12 → List (View.Piece (Elt F) S1544x128 .f32) :=
  Nat.rec (motive := fun n => n ≤ 12 → List (View.Piece (Elt F) S1544x128 .f32)) (fun _ => bodyRun.sl.H17_1)
    (fun k ih h => ⟨Rect.unit ![(Scalar.indexCast (wd c arg1 f1 k (Nat.lt_of_lt_of_le h (by decide))) : Index).toNat, 0] S8x128.size
      (chk_rst _ (hcu _)), (bodyRun.sl.v4978 : S8x128.Idx → F .f32)⟩ :: ih (Nat.le_of_succ_le h)) n

/-- The scale buffer during the point. -/
def B16 : Bf (F := F) c arg16 :=
  if k0_cond1 i = 1#1 then arg16.view.writes (Elt F) f16 (bodyRun.sl.H16_1 c arg3 f3) else f16

/-- The reset buffer during the point. -/
def B17 : Bf (F := F) c arg17 :=
  if k0_cond1 i = 1#1 then arg17.view.writes (Elt F) arg17.view.junk (rstL c arg1 f1 hcu 12 (by decide)) else f17

/-- Block `g`'s rows of the two. -/
def Zv (g : ℕ) (hg : g < 112) : FVec F S8x128 .f32 :=
  View.readAt (Elt F) arg16.view (Rect.unit (s := S1536x128) ![8 * g, 0] S8x128.size (inb8 (n := 1536) (by omega))).toLoadRect (B16 c i arg3 arg16 f3 f16)
def Rv (g : ℕ) (hg : g < 112) : FVec F S8x128 .f32 :=
  View.readAt (Elt F) arg17.view (Rect.unit (s := S1544x128) ![8 * g, 0] S8x128.size (inb8 (n := 1544) (by omega))).toLoadRect (B17 c i arg1 arg17 f1 f17 hcu)

/-- The point's stores to the running buffer. -/
abbrev RL : List (View.Piece (Elt F) S4x904x128 .f32) :=
  runL (Av c arg2 arg4 f2 f4) (Zv c i arg3 arg16 f3 f16) (Rv c i arg1 arg17 f1 f17 hcu) (Ev c i arg5 f5 hE) 112 (le_refl _)

theorem H15_eq : bodyRun.sl.H15_448 c i arg1 arg2 arg3 arg4 arg5 arg16 arg17 f1 f2 f3 f4 f5 f16 f17 hcu
    = RL c i arg1 arg2 arg3 arg4 arg5 arg16 arg17 f1 f2 f3 f4 f5 f16 f17 hcu hE := by
  sl_kernel_rfl

/-- Document `d`'s eight rows of the running buffer before its end, lane group `j`. -/
def rd (d : ℕ) (hd : d < 12) (j : ℕ) (hj : j < 4) : FVec F S8x128 .f32 :=
  shapeCast S8x128 (View.readAt (Elt F) arg15.view
    (Rect.unit (s := S4x904x128) ![j, (Scalar.indexCast (wd c arg1 f1 (d + 1) (Nat.succ_lt_succ hd)) : Index).toNat, 0] S1x8x128.size
      (chk_run j hj _ (hcu _))).toLoadRect
    (arg15.view.writes (Elt F) f15 (RL c i arg1 arg2 arg3 arg4 arg5 arg16 arg17 f1 f2 f3 f4 f5 f16 f17 hcu hE))) shapeCasts_S1x8x128_S8x128

/-- Document `d`'s largest scaled product at each lane of group `j`: the largest of the rows that belong to the document. -/
def rowM (d : ℕ) (hd : d < 12) (j : ℕ) (hj : j < 4) : FVec F S1x128 .f32 :=
  shapeCast S1x128 (multiReduction .maximumf [0] S128
    (select (cmpi .sge (iota .tc S8x128 32 [0] iota_S8x128_d0_w32) (broadcast S8x128
        (Scalar.addi (Scalar.subi (wd c arg1 f1 d (by omega)) (wd c arg1 f1 (d + 1) (by omega))) 8#32)))
      (rd c i arg1 arg2 arg3 arg4 arg5 arg15 arg16 arg17 f1 f2 f3 f4 f5 f15 f16 f17 hcu hE d hd j hj)
      (broadcast S8x128 (FloatOps.ofBits .f32 0xFF800000#32)))
    0xFF800000#32 reduces_S8x128_S128 (.inl rfl) rfl) shapeCasts_S128_S1x128

/-- The twelve documents' rows of lane group `j` over four rows of minus infinity. -/
def mxV (j : ℕ) (hj : j < 4) : FVec F S16x128 .f32 :=
  concatenate S16x128 0 [⟨S1x128, rowM c i arg1 arg2 arg3 arg4 arg5 arg15 arg16 arg17 f1 f2 f3 f4 f5 f15 f16 f17 hcu hE 0 (by decide) j hj⟩, ⟨S1x128, rowM c i arg1 arg2 arg3 arg4 arg5 arg15 arg16 arg17 f1 f2 f3 f4 f5 f15 f16 f17 hcu hE 1 (by decide) j hj⟩, ⟨S1x128, rowM c i arg1 arg2 arg3 arg4 arg5 arg15 arg16 arg17 f1 f2 f3 f4 f5 f15 f16 f17 hcu hE 2 (by decide) j hj⟩, ⟨S1x128, rowM c i arg1 arg2 arg3 arg4 arg5 arg15 arg16 arg17 f1 f2 f3 f4 f5 f15 f16 f17 hcu hE 3 (by decide) j hj⟩, ⟨S1x128, rowM c i arg1 arg2 arg3 arg4 arg5 arg15 arg16 arg17 f1 f2 f3 f4 f5 f15 f16 f17 hcu hE 4 (by decide) j hj⟩, ⟨S1x128, rowM c i arg1 arg2 arg3 arg4 arg5 arg15 arg16 arg17 f1 f2 f3 f4 f5 f15 f16 f17 hcu hE 5 (by decide) j hj⟩, ⟨S1x128, rowM c i arg1 arg2 arg3 arg4 arg5 arg15 arg16 arg17 f1 f2 f3 f4 f5 f15 f16 f17 hcu hE 6 (by decide) j hj⟩, ⟨S1x128, rowM c i arg1 arg2 arg3 arg4 arg5 arg15 arg16 arg17 f1 f2 f3 f4 f5 f15 f16 f17 hcu hE 7 (by decide) j hj⟩, ⟨S1x128, rowM c i arg1 arg2 arg3 arg4 arg5 arg15 arg16 arg17 f1 f2 f3 f4 f5 f15 f16 f17 hcu hE 8 (by decide) j hj⟩, ⟨S1x128, rowM c i arg1 arg2 arg3 arg4 arg5 arg15 arg16 arg17 f1 f2 f3 f4 f5 f15 f16 f17 hcu hE 9 (by decide) j hj⟩, ⟨S1x128, rowM c i arg1 arg2 arg3 arg4 arg5 arg15 arg16 arg17 f1 f2 f3 f4 f5 f15 f16 f17 hcu hE 10 (by decide) j hj⟩, ⟨S1x128, rowM c i arg1 arg2 arg3 arg4 arg5 arg15 arg16 arg17 f1 f2 f3 f4 f5 f15 f16 f17 hcu hE 11 (by decide) j hj⟩,
    ⟨S4x128, broadcast S4x128 (FloatOps.ofBits .f32 0xFF800000#32)⟩]
    concatenates_S1x128_S1x128_S1x128_S1x128_S1x128_S1x128_S1x128_S1x128_S1x128_S1x128_S1x128_S1x128_S4x128_S16x128_d0

/-- The log-saturated activations of a tile, from the four lane groups' maxima and the biases. -/
def actV (w : BitVec 32) (m0 m1 m2 m3 : FVec F S16x128 .f32) (b : FVec F S1x512 .f32) : FVec F S16x512 .f32 :=
  log1p (select (cmpi .slt (addi (broadcast S16x512 w) (iota .tc S16x512 32 [1] iota_S16x512_d1_w32)) (broadcast S16x512 50368#32))
    (maximumf (addf (concatenate S16x512 1 [⟨S16x128, m0⟩, ⟨S16x128, m1⟩, ⟨S16x128, m2⟩, ⟨S16x128, m3⟩]
        concatenates_S16x128_S16x128_S16x128_S16x128_S16x512_d1)
      (broadcastTo S16x512 (shapeCast S1x512 b shapeCasts_S1x512_S1x512) broadcasts_S1x512_S16x512))
      (broadcast S16x512 (FloatOps.ofBits .f32 0x00000000#32)))
    (broadcast S16x512 (FloatOps.ofBits .f32 0x00000000#32)))

/-- The point's tile: 16 rows by 512 vocabulary columns. -/
def tileV : FVec F S16x512 .f32 :=
  actV (bodyRun.sl.v3 i)
    (mxV c i arg1 arg2 arg3 arg4 arg5 arg15 arg16 arg17 f1 f2 f3 f4 f5 f15 f16 f17 hcu hE 0 (by decide))
    (mxV c i arg1 arg2 arg3 arg4 arg5 arg15 arg16 arg17 f1 f2 f3 f4 f5 f15 f16 f17 hcu hE 1 (by decide))
    (mxV c i arg1 arg2 arg3 arg4 arg5 arg15 arg16 arg17 f1 f2 f3 f4 f5 f15 f16 f17 hcu hE 2 (by decide))
    (mxV c i arg1 arg2 arg3 arg4 arg5 arg15 arg16 arg17 f1 f2 f3 f4 f5 f15 f16 f17 hcu hE 3 (by decide))
    (View.readAt (Elt F) arg6.view (Rect.unit (s := S1x50688) (k0_off62 i) S1x512.size (k0_off62_inb i)).toLoadRect f6)

theorem H13_eq : bodyRun.sl.H13_1 c i arg1 arg2 arg3 arg4 arg5 arg6 arg15 arg16 arg17 f1 f2 f3 f4 f5 f6 f15 f16 f17 hcu
    = [⟨Rect.unit (s := S16x50688) (k0_off63 i) S16x512.size (k0_off63_inb i),
        (shapeCast S16x512 (tileV c i arg1 arg2 arg3 arg4 arg5 arg6 arg15 arg16 arg17 f1 f2 f3 f4 f5 f6 f15 f16 f17 hcu hE) shapeCasts_S16x512_S16x512 : S16x512.Idx → F .f32)⟩] := by
  sl_kernel_rfl
end run

end Cert.PoolIdeal.Model
-- ==== Proof.PoolRun.lean ====
/- The pool's running maximum over the extended reals, read element by element: the products, the scales, the reset rows,
   and the running buffer row by row. -/
module

public import proofs.«01_k».proof.Proof.PoolModel
public import Idealize.ShloMosaic.Lib.Pointwise
public import Idealize.ShloMosaic.Lib.WritesUnit

@[expose] public section

set_option maxRecDepth 16384

noncomputable section

namespace Cert.PoolIdeal.Model

open Cert.PoolIdeal Cert.PoolIdeal.Gen Cert.PoolIdeal.Body
open Idealize.ShloMosaic Idealize.ShloMosaic.TcCoe Idealize.ShloMosaic.Tactic

/-- A load through a unit rectangle, at an element. -/
theorem readU {κ : Kind} {sp : Space} {s : Shape} {e : EltTy} {Val : EltTy → Type} (v : View sig κ sp s e)
    (f : v.ty.Contents Val) {off size : Fin s.rank → ℕ} (inb : ∀ a, off a + size a ≤ s.size a)
    (x : (Rect.unit off size inb).shape.Idx) (y : s.Idx) (h : ∀ a, (y a).val = off a + (x a).val) :
    v.readAt Val (Rect.unit off size inb).toLoadRect f x = v.read Val f y := by
  rw [View.readAt_apply]
  refine congrArg _ (funext fun a => Fin.ext ?_)
  show off a + 1 * (x a).val = (y a).val
  rw [h a]; omega

theorem neg_inf : (Ideal.ofBits .f32 0xFF800000#32 : EReal) = ⊥ := by
  simp [Ideal.ofBits, Ideal.ieee]

theorem pos_inf : (Ideal.ofBits .f32 0x7F800000#32 : EReal) = ⊤ := by
  simp [Ideal.ofBits, Ideal.ieee]

/-- The running maximum of one sublane and lane, block by block. -/
def runS (R T : ℕ → EReal) : ℕ → EReal
  | 0 => max (min ⊥ (R 0)) (T 0)
  | g + 1 => max (min (runS R T g) (R (g + 1))) (T (g + 1))

/-- Whether row `r` is one of the eight from a document's start. -/
def Hit (w : ℕ → ℕ) (n r : ℕ) : Prop := ∃ d < n, w d ≤ r ∧ r < w d + 8

open Classical in
/-- The reset value of row `r`. -/
def rst (w : ℕ → ℕ) (n r : ℕ) : EReal := if Hit w n r then ⊥ else ⊤

section
variable (c : Dev nD) (i : grid0.Coords) (arg1 : Memref sig .tc .smem S13 .i32) (arg2 : Memref sig .tc .vmem S1536x1024 .fp8e4m3)
  (arg3 : Memref sig .tc .vmem S1536x1 .f32) (arg4 : Memref sig .tc .vmem S512x1024 .fp8e4m3)
  (arg5 : Memref sig .tc .vmem S1x50688 .f32) (arg15 : Memref sig .tc .vmem S4x904x128 .f32)
  (arg16 : Memref sig .tc .vmem S1536x128 .f32) (arg17 : Memref sig .tc .vmem S1544x128 .f32)
  (f1 : Bf (F := Ideal) c arg1) (f2 : Bf (F := Ideal) c arg2) (f3 : Bf (F := Ideal) c arg3) (f4 : Bf (F := Ideal) c arg4)
  (f5 : Bf (F := Ideal) c arg5) (f15 : Bf (F := Ideal) c arg15) (f16 : Bf (F := Ideal) c arg16) (f17 : Bf (F := Ideal) c arg17)
  (hcu : ∀ y, (arg1.view.read (Elt Ideal) f1 y : BitVec 32).toNat ≤ 896)
  (hE : ∀ j, j < 4 → ∀ a, k0_off13 i (BitVec.ofNat 32 (128 * j)) a + S1x128.size a ≤ S1x50688.size a)

theorem wd_at (k : ℕ) (hk : k < 13) : wd c arg1 f1 k hk = arg1.view.read (Elt Ideal) f1 (ix1 (⟨k, hk⟩ : Fin 13)) := by
  unfold wd
  refine readU _ _ _ _ _ fun a => ?_
  fin_cases a
  show k = k + _
  simp [Shape.Idx.first]

/-- The words as naturals. -/
def wn (k : ℕ) : ℕ := if hk : k < 13 then (arg1.view.read (Elt Ideal) f1 (ix1 (⟨k, hk⟩ : Fin 13)) : BitVec 32).toNat else 0

theorem wd_toNat (k : ℕ) (hk : k < 13) : (wd c arg1 f1 k hk).toNat = wn c arg1 f1 k := by
  rw [wd_at, wn, dif_pos hk]

theorem Av_at (r : Fin 896) (l : Fin 512) : Av c arg2 arg4 f2 f4 (ix2 r l)
    = ∑ k : Fin 1024, arg2.view.read (Elt Ideal) f2 (ix2 (⟨r, by omega⟩ : Fin 1536) k) * arg4.view.read (Elt Ideal) f4 (ix2 l k) := by
  pointwise [Av, bodyRun.sl.v28, bodyRun.sl.cst_9]
  refine Finset.sum_congr rfl fun k _ => congrArg₂ (· * ·) ?_ ?_
  · exact readU _ _ _ _ _ fun a => by fin_cases a <;> [show r.val = 0 + r.val; show k.val = 0 + k.val] <;> omega
  · exact readU _ _ _ _ _ fun a => by fin_cases a <;> [show l.val = 0 + l.val; show k.val = 0 + k.val] <;> omega

theorem i_lt : (i 0).val < 99 := (i 0).isLt

theorem Ev_at (j : ℕ) (hj : j < 4) (s : Fin 8) (l : Fin 128) : Ev c i arg5 f5 hE j hj (ix2 s l)
    = arg5.view.read (Elt Ideal) f5 (ix2 0 (⟨512 * (i 0).val + 128 * j + l.val, by have := i_lt i; omega⟩ : Fin 50688)) := by
  pointwise [Ev]
  refine readU _ _ _ _ _ fun a => ?_
  have e := k0_off13_eq i ⟨j, hj⟩
  rw [show (⟨j, hj⟩ : Fin 4).val = j from rfl] at e
  refine Eq.trans ?_ (congrArg (fun z : Fin 2 → ℕ => z a + (ix2 (0 : Fin 1) l a).val) e).symm
  fin_cases a <;> rfl

theorem B16_at (h : k0_cond1 i ≠ 1#1 → ∀ r l, arg16.view.read (Elt Ideal) f16 (ix2 r l) = arg3.view.read (Elt Ideal) f3 (ix2 r 0))
    (r : Fin 1536) (l : Fin 128) :
    arg16.view.read (Elt Ideal) (B16 c i arg3 arg16 f3 f16) (ix2 r l) = arg3.view.read (Elt Ideal) f3 (ix2 r 0) := by
  unfold B16
  split
  · unfold bodyRun.sl.H16_1
    rw [View.read_writes_cons_unit_of_mem _ _ _ _ _ _ (ix2 r l) rfl (fun a => by fin_cases a <;> [show r.val = 0 + r.val; show l.val = 0 + l.val] <;> omega)]
    pointwise [bodyRun.sl.v4968, bodyRun.sl.v4965, bodyRun.sl.v4964]
    exact readU _ _ _ _ _ fun a => by fin_cases a <;> [show r.val = 0 + r.val; show 0 = 0 + 0] <;> omega
  · exact h ‹_› r l

theorem rstL_at (n : ℕ) (hn : n ≤ 12) (r : Fin 1544) (l : Fin 128) :
    arg17.view.read (Elt Ideal) (arg17.view.writes (Elt Ideal) arg17.view.junk (rstL c arg1 f1 hcu n hn)) (ix2 r l) = rst (wn c arg1 f1) n r := by
  induction n with
  | zero =>
    show arg17.view.read (Elt Ideal) (arg17.view.writes (Elt Ideal) arg17.view.junk bodyRun.sl.H17_1) (ix2 r l) = _
    unfold bodyRun.sl.H17_1
    rw [View.read_writes_cons_unit_of_mem _ _ _ _ _ _ (ix2 r l) rfl (fun a => by fin_cases a <;> [show r.val = 0 + r.val; show l.val = 0 + l.val] <;> omega)]
    rw [rst, if_neg (by rintro ⟨d, hd, _⟩; omega)]
    pointwise [bodyRun.sl.v4972, bodyRun.sl.v4969, bodyRun.sl.cst_2042]
    exact pos_inf
  | succ n ih =>
    have hw : (Scalar.indexCast (wd c arg1 f1 n (Nat.lt_of_lt_of_le hn (by decide))) : Index).toNat = wn c arg1 f1 n := wd_toNat c arg1 f1 n _
    by_cases hit : wn c arg1 f1 n ≤ r.val ∧ r.val < wn c arg1 f1 n + 8
    · refine (View.read_writes_cons_unit_of_mem _ _ _ _ _ _ (ix2 (⟨r.val - wn c arg1 f1 n, by omega⟩ : Fin 8) l)
        (congrArg (fun z => (![z, 0] : Fin 2 → ℕ)) hw) (fun a => by
          fin_cases a <;> [show r.val = wn c arg1 f1 n + (r.val - wn c arg1 f1 n); show l.val = 0 + l.val] <;> omega)).trans ?_
      rw [rst, if_pos ⟨n, by omega, hit⟩]
      pointwise [bodyRun.sl.v4978, bodyRun.sl.v4973, bodyRun.sl.cst]
      exact neg_inf
    · refine (View.read_writes_cons_unit_of_not_mem _ _ _ _ _ _
        (congrArg (fun z => (![z, 0] : Fin 2 → ℕ)) hw) 0 (by
          show r.val < wn c arg1 f1 n ∨ wn c arg1 f1 n + 8 ≤ r.val
          omega)).trans ?_
      refine (ih (Nat.le_of_succ_le hn)).trans ?_
      have : Hit (wn c arg1 f1) n r.val ↔ Hit (wn c arg1 f1) (n + 1) r.val :=
        ⟨fun ⟨d, hd, h⟩ => ⟨d, by omega, h⟩, fun ⟨d, hd, h⟩ => ⟨d, by
          rcases Nat.lt_succ_iff_lt_or_eq.1 hd with h' | rfl
          · exact h'
          · exact absurd h hit, h⟩⟩
      rw [rst, rst, this]

theorem B17_at (h : k0_cond1 i ≠ 1#1 → ∀ (r : Fin 1544) l, arg17.view.read (Elt Ideal) f17 (ix2 r l) = rst (wn c arg1 f1) 12 r)
    (r : Fin 1544) (l : Fin 128) :
    arg17.view.read (Elt Ideal) (B17 c i arg1 arg17 f1 f17 hcu) (ix2 r l) = rst (wn c arg1 f1) 12 r := by
  unfold B17
  split
  · exact rstL_at c arg1 arg17 f1 hcu 12 (by decide) r l
  · exact h ‹_› r l

theorem Zv_at (h : k0_cond1 i ≠ 1#1 → ∀ r l, arg16.view.read (Elt Ideal) f16 (ix2 r l) = arg3.view.read (Elt Ideal) f3 (ix2 r 0))
    (g : ℕ) (hg : g < 112) (s : Fin 8) (l : Fin 128) :
    Zv c i arg3 arg16 f3 f16 g hg (ix2 s l) = arg3.view.read (Elt Ideal) f3 (ix2 (⟨8 * g + s.val, by omega⟩ : Fin 1536) 0) := by
  unfold Zv
  rw [← B16_at c i arg3 arg16 f3 f16 h _ l]
  exact readU _ _ _ _ _ fun a => by fin_cases a <;> [show 8 * g + s.val = 8 * g + s.val; show l.val = 0 + l.val] <;> omega

theorem Rv_at (h : k0_cond1 i ≠ 1#1 → ∀ (r : Fin 1544) l, arg17.view.read (Elt Ideal) f17 (ix2 r l) = rst (wn c arg1 f1) 12 r)
    (g : ℕ) (hg : g < 112) (s : Fin 8) (l : Fin 128) :
    Rv c i arg1 arg17 f1 f17 hcu g hg (ix2 s l) = rst (wn c arg1 f1) 12 (8 * g + s.val) := by
  unfold Rv
  rw [← B17_at c i arg1 arg17 f1 f17 hcu h (⟨8 * g + s.val, by omega⟩ : Fin 1544) l]
  exact readU _ _ _ _ _ fun a => by fin_cases a <;> [show 8 * g + s.val = 8 * g + s.val; show l.val = 0 + l.val] <;> omega

/-- The scaled product of row `r` and column `l` of the point's tile. -/
def tS (r : ℕ) (l : Fin 512) : EReal :=
  if h : r < 1536 then
    (∑ k : Fin 1024, arg2.view.read (Elt Ideal) f2 (ix2 (⟨r, h⟩ : Fin 1536) k) * arg4.view.read (Elt Ideal) f4 (ix2 l k))
      * arg3.view.read (Elt Ideal) f3 (ix2 (⟨r, h⟩ : Fin 1536) 0)
      * arg5.view.read (Elt Ideal) f5 (ix2 0 (⟨512 * (i 0).val + l.val, by have := i_lt i; omega⟩ : Fin 50688))
  else 0

theorem term_at (h16 : k0_cond1 i ≠ 1#1 → ∀ r l, arg16.view.read (Elt Ideal) f16 (ix2 r l) = arg3.view.read (Elt Ideal) f3 (ix2 r 0))
    (j : ℕ) (hj : j < 4) (g : ℕ) (hg : g < 112) (s : Fin 8) (l : Fin 128) :
    mulf (F := Ideal) (mulf (extractStridedSlice S8x128 ![8 * g, 128 * j] (Av c arg2 arg4 f2 f4) (sl8 hg hj)) (Zv c i arg3 arg16 f3 f16 g hg))
      (Ev c i arg5 f5 hE j hj) (ix2 s l) = tS c i arg2 arg3 arg4 arg5 f2 f3 f4 f5 (8 * g + s.val) (⟨128 * j + l.val, by omega⟩ : Fin 512) := by
  have e : extractStridedSlice S8x128 ![8 * g, 128 * j] (Av c arg2 arg4 f2 f4) (sl8 hg hj) (ix2 s l)
      = Av c arg2 arg4 f2 f4 (ix2 (⟨8 * g + s.val, by omega⟩ : Fin 896) (⟨128 * j + l.val, by omega⟩ : Fin 512)) := by
    refine extractStridedSlice_apply _ _ _ _ _ fun a => ?_
    fin_cases a <;> rfl
  show extractStridedSlice S8x128 ![8 * g, 128 * j] (Av c arg2 arg4 f2 f4) (sl8 hg hj) (ix2 s l) * Zv c i arg3 arg16 f3 f16 g hg (ix2 s l)
    * Ev c i arg5 f5 hE j hj (ix2 s l) = _
  rw [e, Av_at, Zv_at c i arg3 arg16 f3 f16 h16, Ev_at, tS, dif_pos (by omega)]
  simp only [Nat.add_assoc]

theorem runV_at (h16 : k0_cond1 i ≠ 1#1 → ∀ r l, arg16.view.read (Elt Ideal) f16 (ix2 r l) = arg3.view.read (Elt Ideal) f3 (ix2 r 0))
    (h17 : k0_cond1 i ≠ 1#1 → ∀ (r : Fin 1544) l, arg17.view.read (Elt Ideal) f17 (ix2 r l) = rst (wn c arg1 f1) 12 r)
    (j : ℕ) (hj : j < 4) (g : ℕ) (hg : g < 112) (s : Fin 8) (l : Fin 128) :
    runV (Av c arg2 arg4 f2 f4) (Zv c i arg3 arg16 f3 f16) (Rv c i arg1 arg17 f1 f17 hcu) (Ev c i arg5 f5 hE j hj) j hj g hg (ix2 s l)
      = runS (fun g => rst (wn c arg1 f1) 12 (8 * g + s.val))
          (fun g => tS c i arg2 arg3 arg4 arg5 f2 f3 f4 f5 (8 * g + s.val) (⟨128 * j + l.val, by omega⟩ : Fin 512)) g := by
  induction g with
  | zero =>
    refine (congrArg₂ max (congrArg₂ min neg_inf (Rv_at c i arg1 arg17 f1 f17 hcu h17 0 hg s l))
      (term_at c i arg2 arg3 arg4 arg5 arg16 f2 f3 f4 f5 f16 hE h16 j hj 0 hg s l))
  | succ g ih =>
    exact congrArg₂ max (congrArg₂ min (ih (Nat.lt_of_succ_lt hg)) (Rv_at c i arg1 arg17 f1 f17 hcu h17 (g + 1) hg s l))
      (term_at c i arg2 arg3 arg4 arg5 arg16 f2 f3 f4 f5 f16 hE h16 j hj (g + 1) hg s l)
end

/-- The running buffer after the stores of the first `n` blocks: block `g`'s rows hold its running maximum. -/
theorem runL_at (A : FVec Ideal S896x512 .f32) (Z R : (g : ℕ) → g < 112 → FVec Ideal S8x128 .f32) (E : (j : ℕ) → j < 4 → FVec Ideal S8x128 .f32)
    (c : Dev nD) (arg15 : Memref sig .tc .vmem S4x904x128 .f32) (f15 : Bf (F := Ideal) c arg15)
    (n : ℕ) (hn : n ≤ 112) (g : ℕ) (hg : g < n) (j : ℕ) (hj : j < 4) (s : Fin 8) (l : Fin 128) :
    arg15.view.read (Elt Ideal) (arg15.view.writes (Elt Ideal) f15 (runL A Z R E n hn))
        (ix3 (⟨j, hj⟩ : Fin 4) (⟨8 * g + 8 + s.val, by omega⟩ : Fin 904) l)
      = runV A Z R (E j hj) j hj g (by omega) (ix2 s l) := by
  induction n with
  | zero => omega
  | succ n ih =>
    have miss : ∀ (j' : ℕ) (hj' : j' < 4) (L : List (View.Piece (Elt Ideal) S4x904x128 .f32)), (j ≠ j' ∨ g ≠ n) →
        arg15.view.read (Elt Ideal) (arg15.view.writes (Elt Ideal) f15 (runP A Z R E n (by omega) j' hj' :: L))
            (ix3 (⟨j, hj⟩ : Fin 4) (⟨8 * g + 8 + s.val, by omega⟩ : Fin 904) l)
          = arg15.view.read (Elt Ideal) (arg15.view.writes (Elt Ideal) f15 L)
            (ix3 (⟨j, hj⟩ : Fin 4) (⟨8 * g + 8 + s.val, by omega⟩ : Fin 904) l) := by
      intro j' hj' L h
      rcases h with h | h
      · exact View.read_writes_cons_unit_of_not_mem _ _ _ _ _ _ rfl 0 (by show j < j' ∨ j' + 1 ≤ j; omega)
      · exact View.read_writes_cons_unit_of_not_mem _ _ _ _ _ _ rfl 1 (by
          show 8 * g + 8 + s.val < 8 * n + 8 ∨ 8 * n + 8 + 8 ≤ 8 * g + 8 + s.val
          have := s.isLt; omega)
    have hit : ∀ (L : List (View.Piece (Elt Ideal) S4x904x128 .f32)), g = n →
        arg15.view.read (Elt Ideal) (arg15.view.writes (Elt Ideal) f15 (runP A Z R E n (by omega) j hj :: L))
            (ix3 (⟨j, hj⟩ : Fin 4) (⟨8 * g + 8 + s.val, by omega⟩ : Fin 904) l)
          = runV A Z R (E j hj) j hj g (by omega) (ix2 s l) := by
      rintro L rfl
      refine (View.read_writes_cons_unit_of_mem _ _ _ _ _ _ (ix3 0 s l) rfl (fun a => by
        fin_cases a <;> [show j = j + 0; show 8 * g + 8 + s.val = 8 * g + 8 + s.val; show l.val = 0 + l.val] <;> omega)).trans ?_
      pointwise
    show arg15.view.read (Elt Ideal) (arg15.view.writes (Elt Ideal) f15 (runP A Z R E n _ 3 _ :: runP A Z R E n _ 2 _
      :: runP A Z R E n _ 1 _ :: runP A Z R E n _ 0 _ :: runL A Z R E n _)) _ = _
    by_cases e : g = n
    · have : j = 0 ∨ j = 1 ∨ j = 2 ∨ j = 3 := by omega
      rcases this with rfl | rfl | rfl | rfl
      · rw [miss 3 _ _ (by omega), miss 2 _ _ (by omega), miss 1 _ _ (by omega)]; exact hit _ e
      · rw [miss 3 _ _ (by omega), miss 2 _ _ (by omega)]; exact hit _ e
      · rw [miss 3 _ _ (by omega)]; exact hit _ e
      · exact hit _ e
    · rw [miss 3 _ _ (by omega), miss 2 _ _ (by omega), miss 1 _ _ (by omega), miss 0 _ _ (by omega)]
      exact ih (by omega) (by omega)

end Cert.PoolIdeal.Model
-- ==== Proof.PoolDoc.lean ====
/- The mathematics of the pooled maximum: a running maximum that restarts over the first eight rows of every document, read
   at the document's last eight rows, is the largest value of the document. -/
module

public import proofs.«01_k».proof.Proof.PoolRun

@[expose] public section

noncomputable section

namespace Cert.PoolIdeal.Model

/-- The running maximum at row `r`: sublane `r % 8`, block `r / 8`. -/
def runR (w : ℕ → ℕ) (T : ℕ → EReal) (r : ℕ) : EReal :=
  runS (fun g => rst w 12 (8 * g + r % 8)) (fun g => T (8 * g + r % 8)) (r / 8)

theorem runR_small (w : ℕ → ℕ) (T : ℕ → EReal) (r : ℕ) (h : r < 8) : runR w T r = max (min ⊥ (rst w 12 r)) (T r) := by
  unfold runR
  rw [Nat.div_eq_of_lt h, runS, Nat.mod_eq_of_lt h]
  simp

theorem runR_add (w : ℕ → ℕ) (T : ℕ → EReal) (r : ℕ) : runR w T (r + 8) = max (min (runR w T r) (rst w 12 (r + 8))) (T (r + 8)) := by
  unfold runR
  rw [show (r + 8) / 8 = r / 8 + 1 by omega, show (r + 8) % 8 = r % 8 by omega, runS, show 8 * (r / 8 + 1) + r % 8 = r + 8 by omega]

section
variable (w : ℕ → ℕ) (hw : ∀ d, d < 12 → w d ≤ w (d + 1)) (T : ℕ → EReal) (d : ℕ) (hd : d < 12)
include hw hd

theorem mono (a b : ℕ) (hab : a ≤ b) (hb : b ≤ 12) : w a ≤ w b := by
  induction b with
  | zero => obtain rfl : a = 0 := by omega
            exact le_refl _
  | succ b ih =>
    rcases Nat.lt_or_ge a (b + 1) with h | h
    · exact (ih (by omega) (by omega)).trans (hw b (by omega))
    · obtain rfl : a = b + 1 := by omega
      exact le_refl _

/-- Inside a document only its own start resets. -/
theorem rst_doc (r : ℕ) (h1 : w d ≤ r) (h2 : r < w (d + 1)) : rst w 12 r = if r < w d + 8 then ⊥ else ⊤ := by
  have : Hit w 12 r ↔ r < w d + 8 := by
    constructor
    · rintro ⟨e, he, ha, hb⟩
      by_cases hed : e ≤ d
      · have := mono w hw d hd e d hed (by omega); omega
      · have := mono w hw d hd (d + 1) e (by omega) (by omega); omega
    · intro h; exact ⟨d, hd, h1, h⟩
  rw [rst]
  by_cases h : r < w d + 8
  · rw [if_pos (this.2 h), if_pos h]
  · rw [if_neg (fun h' => h (this.1 h')), if_neg h]

theorem run_le (B : EReal) (hB : ∀ r, w d ≤ r → r < w (d + 1) → T r ≤ B) (r : ℕ) (h1 : w d ≤ r) (h2 : r < w (d + 1)) : runR w T r ≤ B := by
  induction r using Nat.strong_induction_on with
  | _ r ih =>
    rcases Nat.lt_or_ge r 8 with h8 | h8
    · rw [runR_small _ _ _ h8]
      exact max_le (by simp) (hB r h1 h2)
    · obtain ⟨q, rfl⟩ : ∃ q, r = q + 8 := ⟨r - 8, by omega⟩
      rw [runR_add, rst_doc w hw d hd _ h1 h2]
      refine max_le ?_ (hB _ h1 h2)
      by_cases h : q + 8 < w d + 8
      · rw [if_pos h]; simp
      · rw [if_neg h]
        exact (min_le_left _ _).trans (ih q (by omega) (by omega) (by omega))

theorem le_run (r : ℕ) (h1 : w d ≤ r) (k : ℕ) (h2 : r + 8 * k < w (d + 1)) : T r ≤ runR w T (r + 8 * k) := by
  induction k with
  | zero =>
    rcases Nat.lt_or_ge r 8 with h8 | h8
    · rw [Nat.mul_zero, Nat.add_zero, runR_small _ _ _ h8]; exact le_max_right _ _
    · obtain ⟨q, rfl⟩ : ∃ q, r = q + 8 := ⟨r - 8, by omega⟩
      rw [Nat.mul_zero, Nat.add_zero, runR_add]; exact le_max_right _ _
  | succ k ih =>
    rw [show r + 8 * (k + 1) = (r + 8 * k) + 8 by omega, runR_add, rst_doc w hw d hd _ (by omega) (by omega), if_neg (by omega), min_top_right]
    exact (ih (by omega)).trans (le_max_left _ _)

/-- The largest running maximum of the document's last eight rows is the document's largest value. -/
theorem doc_sup (hle : w (d + 1) ≤ 896) (X : Fin 8 → EReal)
    (hX : ∀ s : Fin 8, w d + 8 ≤ w (d + 1) + s.val → X s = runR w T (w (d + 1) + s.val - 8))
    (hX' : ∀ s : Fin 8, ¬ w d + 8 ≤ w (d + 1) + s.val → X s = ⊥) :
    Finset.univ.sup X = Finset.univ.sup (fun r : Fin 1536 => if w d ≤ r.val ∧ r.val < w (d + 1) then T r.val else ⊥) := by
  apply le_antisymm
  · refine Finset.sup_le fun s _ => ?_
    by_cases h : w d + 8 ≤ w (d + 1) + s.val
    · rw [hX s h]
      refine run_le w hw T d hd _ (fun r ha hb => ?_) _ (by omega) (by have := s.isLt; omega)
      refine le_trans ?_ (Finset.le_sup (Finset.mem_univ (⟨r, by omega⟩ : Fin 1536)))
      exact (if_pos ⟨ha, hb⟩).ge
    · rw [hX' s h]; exact bot_le
  · refine Finset.sup_le fun r _ => ?_
    by_cases h : w d ≤ r.val ∧ r.val < w (d + 1)
    · rw [if_pos h]
      have hk : r.val + 8 * ((w (d + 1) - 1 - r.val) / 8) < w (d + 1) := by omega
      have hs : r.val + 8 * ((w (d + 1) - 1 - r.val) / 8) + 8 - w (d + 1) < 8 := by omega
      refine (le_run w hw T d hd r.val h.1 _ hk).trans ?_
      refine le_trans ?_ (Finset.le_sup (Finset.mem_univ (⟨_, hs⟩ : Fin 8)))
      rw [hX _ (by show w d + 8 ≤ w (d + 1) + (r.val + 8 * ((w (d + 1) - 1 - r.val) / 8) + 8 - w (d + 1)); omega)]
      refine le_of_eq (congrArg _ ?_)
      show _ = w (d + 1) + (r.val + 8 * ((w (d + 1) - 1 - r.val) / 8) + 8 - w (d + 1)) - 8
      omega
    · rw [if_neg h]; exact bot_le
end

end Cert.PoolIdeal.Model
-- ==== Proof.PoolOut.lean ====
/- What a grid point leaves in each buffer, stated from the point's tile: the run's terms are these. -/
module

public import proofs.«01_k».proof.Proof.PoolModel

@[expose] public section

noncomputable section

namespace Cert.PoolIdeal.Model

open Cert.PoolIdeal Cert.PoolIdeal.Gen Cert.PoolIdeal.Body
open Idealize.ShloMosaic Idealize.ShloMosaic.TcCoe Idealize.ShloMosaic.Tactic

variable {F : FTy → Type} [FloatOps F] [Named F]

/-- A tile's mean over the documents. -/
def meanV (T : FVec F S16x512 .f32) : FVec F S1x512 .f32 :=
  mulf (shapeCast S1x512 (multiReduction .add [0] S512 T 0x00000000#32 reduces_S16x512_S512 (.inl rfl) rfl) shapeCasts_S512_S1x512)
    (broadcast S1x512 (Named.named κ "inv_n" 0x3DAAAAAB#32))

/-- The row sums, from the accumulated activations: summed over lanes, laid along a row, the first twelve. -/
def l1V (X : FVec F S16x512 .f32) : FVec F S1x12 .f32 :=
  extractStridedSlice S1x12 ![0, 0] (shapeCast S1x128 (multiReduction .add [0] S128
    (select (cmpi .eq (iota .tc S16x128 32 [0] iota_S16x128_d0_w32) (iota .tc S16x128 32 [1] iota_S16x128_d1_w32))
      (broadcastTo S16x128 (shapeCast S16x1 (shapeCast S16x1
        (multiReduction .add [1] S16 X 0x00000000#32 reduces_S16x512_S16 (.inl rfl) rfl) shapeCasts_S16_S16x1) shapeCasts_S16x1_S16x1)
        broadcasts_S16x1_S16x128)
      (broadcast S16x128 (FloatOps.ofBits .f32 0x00000000#32)))
    0x00000000#32 reduces_S16x128_S128 (.inl rfl) rfl) shapeCasts_S128_S1x128) slices_S1x128_o0_0_S1x12

/-- The sum of the accumulated squared means. -/
def flV (X : FVec F S1x512 .f32) : FVec F S1x1 .f32 :=
  shapeCast S1x1 (multiReduction .add [1] S1 X 0x00000000#32 reduces_S1x512_S1 (.inl rfl) rfl) shapeCasts_S1_S1x1

/-- Each document's scale: its largest activation over 255, one where that is zero. -/
def scV (R : FVec F S12x50368 .f32) : FVec F S12x1 .f32 :=
  let a := shapeCast S12x1 (multiReduction .maximumf [1] S12 R 0xFF800000#32 reduces_S12x50368_S12 (.inl rfl) rfl) shapeCasts_S12_S12x1
  select (cmpf .oeq a (broadcast S12x1 (FloatOps.ofBits .f32 0x00000000#32))) (broadcast S12x1 (FloatOps.ofBits .f32 0x3F800000#32))
    (divf a (broadcast S12x1 (FloatOps.ofBits .f32 0x437F0000#32)))

section pieces
variable (c : Dev nD) (i : grid0.Coords) (arg13 : Memref sig .tc .vmem S16x50688 .f32) (arg14 : Memref sig .tc .vmem S1x50688 .f32)
  (arg18 : Memref sig .tc .vmem S16x512 .f32) (arg19 : Memref sig .tc .vmem S1x512 .f32) (T : FVec F S16x512 .f32)

def P13 : List (View.Piece (Elt F) S16x50688 .f32) :=
  [⟨Rect.unit (s := S16x50688) (k0_off63 i) S16x512.size (k0_off63_inb i), (shapeCast S16x512 T shapeCasts_S16x512_S16x512 : S16x512.Idx → F .f32)⟩]
def P14 : List (View.Piece (Elt F) S1x50688 .f32) :=
  [⟨Rect.unit (s := S1x50688) (k0_off62 i) S1x512.size (k0_off62_inb i), (shapeCast S1x512 (meanV T) shapeCasts_S1x512_S1x512 : S1x512.Idx → F .f32)⟩]
def B18 (f18 : Bf (F := F) c arg18) : Bf (F := F) c arg18 :=
  if k0_cond1 i = 1#1 then arg18.view.writes (Elt F) f18 [⟨Rect.unit (s := S16x512) ![0, 0] S16x512.size inb_S16x512_S16x512_0_0,
    (shapeCast S16x512 (broadcast S16x512 (FloatOps.ofBits .f32 0x00000000#32)) shapeCasts_S16x512_S16x512 : S16x512.Idx → F .f32)⟩] else f18
def B19 (f19 : Bf (F := F) c arg19) : Bf (F := F) c arg19 :=
  if k0_cond1 i = 1#1 then arg19.view.writes (Elt F) f19 [⟨Rect.unit (s := S1x512) ![0, 0] S1x512.size inb_S1x512_S1x512_0_0,
    (shapeCast S1x512 (broadcast S1x512 (FloatOps.ofBits .f32 0x00000000#32)) shapeCasts_S1x512_S1x512 : S1x512.Idx → F .f32)⟩] else f19
def P18 (f18 : Bf (F := F) c arg18) : List (View.Piece (Elt F) S16x512 .f32) :=
  [⟨Rect.unit (s := S16x512) ![0, 0] S16x512.size inb_S16x512_S16x512_0_0,
    (shapeCast S16x512 (addf (View.readAt (Elt F) arg18.view (Rect.unit (s := S16x512) ![0, 0] S16x512.size inb_S16x512_S16x512_0_0).toLoadRect (B18 c i arg18 f18)) T)
      shapeCasts_S16x512_S16x512 : S16x512.Idx → F .f32)⟩]
def P19 (f19 : Bf (F := F) c arg19) : List (View.Piece (Elt F) S1x512 .f32) :=
  [⟨Rect.unit (s := S1x512) ![0, 0] S1x512.size inb_S1x512_S1x512_0_0,
    (k0_pay1 (meanV T) (View.readAt (Elt F) arg19.view (Rect.unit (s := S1x512) ![0, 0] S1x512.size inb_S1x512_S1x512_0_0).toLoadRect (B19 c i arg19 f19)) : S1x512.Idx → F .f32)⟩]
def R13 (f13 : Bf (F := F) c arg13) : FVec F S12x50368 .f32 :=
  View.readAt (Elt F) arg13.view (Rect.unit (s := S16x50688) ![0, 0] S12x50368.size inb_S16x50688_S12x50368_0_0).toLoadRect (arg13.view.writes (Elt F) f13 (P13 i T))
def R14 (f14 : Bf (F := F) c arg14) : FVec F S1x50368 .f32 :=
  View.readAt (Elt F) arg14.view (Rect.unit (s := S1x50688) ![0, 0] S1x50368.size inb_S1x50688_S1x50368_0_0).toLoadRect (arg14.view.writes (Elt F) f14 (P14 i T))
def R18 (f18 : Bf (F := F) c arg18) : FVec F S16x512 .f32 :=
  arg18.view.readCov (P18 c i arg18 T f18) (Rect.unit (s := S16x512) ![0, 0] S16x512.size inb_S16x512_S16x512_0_0).toLoadRect
def R19 (f19 : Bf (F := F) c arg19) : FVec F S1x512 .f32 :=
  arg19.view.readCov (P19 c i arg19 T f19) (Rect.unit (s := S1x512) ![0, 0] S1x512.size inb_S1x512_S1x512_0_0).toLoadRect
end pieces

section
variable  (c : Dev nD) (i : grid0.Coords) (arg1 : Memref sig .tc .smem S13 .i32) (harg1 : arg1.IsWhole) (arg2 : Memref sig .tc .vmem S1536x1024 .fp8e4m3) (harg2 : arg2.IsWhole) (arg3 : Memref sig .tc .vmem S1536x1 .f32) (harg3 : arg3.IsWhole) (arg4 : Memref sig .tc .vmem S512x1024 .fp8e4m3) (harg4 : arg4.IsWhole) (arg5 : Memref sig .tc .vmem S1x50688 .f32) (harg5 : arg5.IsWhole) (arg6 : Memref sig .tc .vmem S1x50688 .f32) (harg6 : arg6.IsWhole) (arg7 : Memref sig .tc .vmem S12x50368 .f32) (harg7 : arg7.IsWhole) (arg8 : Memref sig .tc .vmem S1x12 .f32) (harg8 : arg8.IsWhole) (arg9 : Memref sig .tc .vmem S1x50368 .f32) (harg9 : arg9.IsWhole) (arg10 : Memref sig .tc .vmem S1x1 .f32) (harg10 : arg10.IsWhole) (arg11 : Memref sig .tc .vmem S12x50368 .i8) (harg11 : arg11.IsWhole) (arg12 : Memref sig .tc .vmem S1x12 .f32) (harg12 : arg12.IsWhole) (arg13 : Memref sig .tc .vmem S16x50688 .f32) (harg13 : arg13.IsWhole) (arg14 : Memref sig .tc .vmem S1x50688 .f32) (harg14 : arg14.IsWhole) (arg15 : Memref sig .tc .vmem S4x904x128 .f32) (harg15 : arg15.IsWhole) (arg16 : Memref sig .tc .vmem S1536x128 .f32) (harg16 : arg16.IsWhole) (arg17 : Memref sig .tc .vmem S1544x128 .f32) (harg17 : arg17.IsWhole) (arg18 : Memref sig .tc .vmem S16x512 .f32) (harg18 : arg18.IsWhole) (arg19 : Memref sig .tc .vmem S1x512 .f32) (harg19 : arg19.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hcu : ∀ y, (arg1.view.read (Elt F) f1 y : BitVec 32).toNat ≤ 896)
  (hE : ∀ j, j < 4 → ∀ a, k0_off13 i (BitVec.ofNat 32 (128 * j)) a + S1x128.size a ≤ S1x50688.size a)

theorem w13 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w13 = arg13.view.writes (Elt F) f13 (P13 i (tileV c i arg1 arg2 arg3 arg4 arg5 arg6 arg15 arg16 arg17 f1 f2 f3 f4 f5 f6 f15 f16 f17 hcu hE)) := by
  sl_kernel_rfl

theorem w14 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w14 = arg14.view.writes (Elt F) f14 (P14 i (tileV c i arg1 arg2 arg3 arg4 arg5 arg6 arg15 arg16 arg17 f1 f2 f3 f4 f5 f6 f15 f16 f17 hcu hE)) := by
  sl_kernel_rfl

theorem w16 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w16 = B16 c i arg3 arg16 f3 f16 := by
  sl_kernel_rfl

theorem w17 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w17 = B17 c i arg1 arg17 f1 f17 hcu := by
  sl_kernel_rfl

theorem w18 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w18 = arg18.view.writes (Elt F) (B18 c i arg18 f18) (P18 c i arg18 (tileV c i arg1 arg2 arg3 arg4 arg5 arg6 arg15 arg16 arg17 f1 f2 f3 f4 f5 f6 f15 f16 f17 hcu hE) f18) := by
  sl_kernel_rfl

theorem w19 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w19 = arg19.view.writes (Elt F) (B19 c i arg19 f19) (P19 c i arg19 (tileV c i arg1 arg2 arg3 arg4 arg5 arg6 arg15 arg16 arg17 f1 f2 f3 f4 f5 f6 f15 f16 f17 hcu hE) f19) := by
  sl_kernel_rfl

theorem w7 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w7 = if k0_cond2 i = 1#1 then arg7.view.writes (Elt F) f7 [⟨Rect.unit (s := S12x50368) ![0, 0] S12x50368.size inb_S12x50368_S12x50368_0_0, (R13 c i arg13 (tileV c i arg1 arg2 arg3 arg4 arg5 arg6 arg15 arg16 arg17 f1 f2 f3 f4 f5 f6 f15 f16 f17 hcu hE) f13 : S12x50368.Idx → F .f32)⟩] else f7 := by
  sl_kernel_rfl

theorem w8 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w8 = if k0_cond2 i = 1#1 then arg8.view.writes (Elt F) f8 [⟨Rect.unit (s := S1x12) ![0, 0] S1x12.size inb_S1x12_S1x12_0_0, (l1V (R18 c i arg18 (tileV c i arg1 arg2 arg3 arg4 arg5 arg6 arg15 arg16 arg17 f1 f2 f3 f4 f5 f6 f15 f16 f17 hcu hE) f18) : S1x12.Idx → F .f32)⟩] else f8 := by
  sl_kernel_rfl

theorem w9 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w9 = if k0_cond2 i = 1#1 then arg9.view.writes (Elt F) f9 [⟨Rect.unit (s := S1x50368) ![0, 0] S1x50368.size inb_S1x50368_S1x50368_0_0, (R14 c i arg14 (tileV c i arg1 arg2 arg3 arg4 arg5 arg6 arg15 arg16 arg17 f1 f2 f3 f4 f5 f6 f15 f16 f17 hcu hE) f14 : S1x50368.Idx → F .f32)⟩] else f9 := by
  sl_kernel_rfl

theorem w10 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w10 = if k0_cond2 i = 1#1 then arg10.view.writes (Elt F) f10 [⟨Rect.unit (s := S1x1) ![0, 0] S1x1.size inb_S1x1_S1x1_0_0, (flV (R19 c i arg19 (tileV c i arg1 arg2 arg3 arg4 arg5 arg6 arg15 arg16 arg17 f1 f2 f3 f4 f5 f6 f15 f16 f17 hcu hE) f19) : S1x1.Idx → F .f32)⟩] else f10 := by
  sl_kernel_rfl

theorem w11 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w11 = if k0_cond2 i = 1#1 then arg11.view.writes (Elt F) f11 [⟨Rect.unit (s := S12x50368) ![0, 0] S12x50368.size inb_S12x50368_S12x50368_0_0, (k0_pay3 (R13 c i arg13 (tileV c i arg1 arg2 arg3 arg4 arg5 arg6 arg15 arg16 arg17 f1 f2 f3 f4 f5 f6 f15 f16 f17 hcu hE) f13) (scV (R13 c i arg13 (tileV c i arg1 arg2 arg3 arg4 arg5 arg6 arg15 arg16 arg17 f1 f2 f3 f4 f5 f6 f15 f16 f17 hcu hE) f13)) : S12x50368.Idx → BitVec 8)⟩] else f11 := by
  sl_kernel_rfl

theorem w12 : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w12 = if k0_cond2 i = 1#1 then arg12.view.writes (Elt F) f12 [⟨Rect.unit (s := S1x12) ![0, 0] S1x12.size inb_S1x12_S1x12_0_0, (k0_pay2 (scV (R13 c i arg13 (tileV c i arg1 arg2 arg3 arg4 arg5 arg6 arg15 arg16 arg17 f1 f2 f3 f4 f5 f6 f15 f16 f17 hcu hE) f13)) (iota .tc S12x128 32 [0] iota_S12x128_d0_w32) (iota .tc S12x128 32 [1] iota_S12x128_d1_w32) : S1x12.Idx → F .f32)⟩] else f12 := by
  sl_kernel_rfl

end

end Cert.PoolIdeal.Model
-- ==== Proof.PoolTile.lean ====
/- What one grid point's tile holds, element by element: at a document's row and a column of the vocabulary, the logarithm of one
   plus the positive part of the document's largest score plus the bias; zero elsewhere. -/
module

public import proofs.«01_k».proof.Proof.PoolDoc
public import proofs.«01_k».proof.Proof.PoolOut

@[expose] public section

set_option maxRecDepth 16384

noncomputable section

namespace Cert.PoolIdeal.Model
open Cert.PoolIdeal Cert.PoolIdeal.Gen Cert.PoolIdeal.Body
open Idealize.ShloMosaic Idealize.ShloMosaic.TcCoe Idealize.ShloMosaic.Tactic

/-- The kernel's mask: row `s` of the eight rows that end document `[a, b)` belongs to the document. -/
theorem mask_iff (w1 w2 : BitVec 32) (h12 : w1.toNat ≤ w2.toNat) (h2 : w2.toNat ≤ 896) (s : Fin 8) :
    IntOp.cmpi CmpIPredicate.sge (BitVec.ofNat 32 s.val) (Scalar.addi (Scalar.subi w1 w2) 8#32) = 1#1
      ↔ w1.toNat + 8 ≤ w2.toNat + s.val := by
  have e : IntOp.cmpi CmpIPredicate.sge (BitVec.ofNat 32 s.val) (Scalar.addi (Scalar.subi w1 w2) 8#32)
      = BitVec.ofBool ((w1 - w2 + 8#32).sle (BitVec.ofNat 32 s.val)) := rfl
  have h8 := s.isLt
  have hs : (BitVec.ofNat 32 s.val).toNat = s.val := by rw [BitVec.toNat_ofNat]; omega
  have key : (w1 - w2 + 8#32).sle (BitVec.ofNat 32 s.val) = true ↔ w1.toNat + 8 ≤ w2.toNat + s.val := by
    rw [BitVec.sle_eq_decide, decide_eq_true_iff, BitVec.toInt_eq_toNat_cond, BitVec.toInt_eq_toNat_cond, BitVec.toNat_add, BitVec.toNat_sub,
      hs, BitVec.toNat_ofNat]
    split <;> split <;> omega
  rw [e, ← key]
  cases (w1 - w2 + 8#32).sle (BitVec.ofNat 32 s.val) <;> decide

theorem runR_eq (w : ℕ → ℕ) (T : ℕ → EReal) (g : ℕ) (m : Fin 8) :
    runR w T (8 * g + m.val) = runS (fun g => rst w 12 (8 * g + m.val)) (fun g => T (8 * g + m.val)) g := by
  have := m.isLt
  rw [runR, show (8 * g + m.val) / 8 = g by omega, show (8 * g + m.val) % 8 = m.val by omega]

theorem cast8_at (X : FVec Ideal S1x8x128 .f32) (s : Fin 8) (l : Fin 128) :
    shapeCast S8x128 X shapeCasts_S1x8x128_S8x128 (ix2 s l) = X (ix3 0 s l) := by
  pointwise

section
variable (c : Dev nD) (i : grid0.Coords) (arg1 : Memref sig .tc .smem S13 .i32) (arg2 : Memref sig .tc .vmem S1536x1024 .fp8e4m3)
  (arg3 : Memref sig .tc .vmem S1536x1 .f32) (arg4 : Memref sig .tc .vmem S512x1024 .fp8e4m3) (arg5 : Memref sig .tc .vmem S1x50688 .f32)
  (arg6 : Memref sig .tc .vmem S1x50688 .f32)
  (arg15 : Memref sig .tc .vmem S4x904x128 .f32) (arg16 : Memref sig .tc .vmem S1536x128 .f32) (arg17 : Memref sig .tc .vmem S1544x128 .f32)
  (f1 : Bf (F := Ideal) c arg1) (f2 : Bf (F := Ideal) c arg2) (f3 : Bf (F := Ideal) c arg3) (f4 : Bf (F := Ideal) c arg4)
  (f5 : Bf (F := Ideal) c arg5) (f6 : Bf (F := Ideal) c arg6) (f15 : Bf (F := Ideal) c arg15) (f16 : Bf (F := Ideal) c arg16)
  (f17 : Bf (F := Ideal) c arg17)
  (hcu : ∀ y, (arg1.view.read (Elt Ideal) f1 y : BitVec 32).toNat ≤ 896)
  (hE : ∀ j, j < 4 → ∀ a, k0_off13 i (BitVec.ofNat 32 (128 * j)) a + S1x128.size a ≤ S1x50688.size a)

theorem wn_le (hcu : ∀ y, (arg1.view.read (Elt Ideal) f1 y : BitVec 32).toNat ≤ 896) (k : ℕ) : wn c arg1 f1 k ≤ 896 := by
  unfold wn
  split
  · exact hcu _
  · omega

/-- Document `d`'s largest scaled product at column `l` of the tile. -/
def docMax (d : ℕ) (l : Fin 512) : EReal :=
  Finset.univ.sup fun r : Fin 1536 => if wn c arg1 f1 d ≤ r.val ∧ r.val < wn c arg1 f1 (d + 1) then
    tS c i arg2 arg3 arg4 arg5 f2 f3 f4 f5 r.val l else ⊥

/-- The loaded eight rows of the running buffer hold the running maxima of the eight rows that end the document. -/
theorem rd_at (h16 : k0_cond1 i ≠ 1#1 → ∀ r l, arg16.view.read (Elt Ideal) f16 (ix2 r l) = arg3.view.read (Elt Ideal) f3 (ix2 r 0))
    (h17 : k0_cond1 i ≠ 1#1 → ∀ (r : Fin 1544) l, arg17.view.read (Elt Ideal) f17 (ix2 r l) = rst (wn c arg1 f1) 12 r)
    (d : ℕ) (hd : d < 12) (j : ℕ) (hj : j < 4) (s : Fin 8) (l : Fin 128) (h8 : 8 ≤ wn c arg1 f1 (d + 1) + s.val) :
    rd c i arg1 arg2 arg3 arg4 arg5 arg15 arg16 arg17 f1 f2 f3 f4 f5 f15 f16 f17 hcu hE d hd j hj (ix2 s l)
      = runR (wn c arg1 f1) (fun r => tS c i arg2 arg3 arg4 arg5 f2 f3 f4 f5 r (⟨128 * j + l.val, by omega⟩ : Fin 512))
          (wn c arg1 f1 (d + 1) + s.val - 8) := by
  have hle := wn_le c arg1 f1 hcu (d + 1)
  have hs := s.isLt
  have hw : (Scalar.indexCast (wd c arg1 f1 (d + 1) (Nat.succ_lt_succ hd)) : Index).toNat = wn c arg1 f1 (d + 1) := wd_toNat c arg1 f1 (d + 1) _
  obtain ⟨g, m, hg, hm⟩ : ∃ (g : ℕ) (m : Fin 8), g < 112 ∧ wn c arg1 f1 (d + 1) + s.val = 8 * g + 8 + m.val :=
    ⟨(wn c arg1 f1 (d + 1) + s.val - 8) / 8, ⟨(wn c arg1 f1 (d + 1) + s.val - 8) % 8, Nat.mod_lt _ (by decide)⟩, by omega, by
      show _ = _ + (wn c arg1 f1 (d + 1) + s.val - 8) % 8; omega⟩
  have hk : wn c arg1 f1 (d + 1) + s.val - 8 = 8 * g + m.val := by omega
  rw [hk, runR_eq]
  unfold rd
  refine (cast8_at _ s l).trans ((readU _ _ _ _ (ix3 (⟨j, hj⟩ : Fin 4) (⟨8 * g + 8 + m.val, by omega⟩ : Fin 904) l) ?_).trans ?_)
  · intro a
    refine Eq.trans ?_ (congrArg (fun z : ℕ => (![j, z, 0] : Fin 3 → ℕ) a + (ix3 (0 : Fin 1) s l a).val) hw).symm
    fin_cases a <;> [show j = j + 0; show 8 * g + 8 + m.val = wn c arg1 f1 (d + 1) + s.val; show l.val = 0 + l.val] <;> omega
  · unfold RL
    rw [runL_at _ _ _ _ c arg15 f15 112 (le_refl _) g hg j hj m l]
    exact runV_at c i arg1 arg2 arg3 arg4 arg5 arg16 arg17 f1 f2 f3 f4 f5 f16 f17 hcu hE h16 h17 j hj g hg m l

/-- A document's row of a lane group: the largest scaled product of the document. -/
theorem rowM_at (h16 : k0_cond1 i ≠ 1#1 → ∀ r l, arg16.view.read (Elt Ideal) f16 (ix2 r l) = arg3.view.read (Elt Ideal) f3 (ix2 r 0))
    (h17 : k0_cond1 i ≠ 1#1 → ∀ (r : Fin 1544) l, arg17.view.read (Elt Ideal) f17 (ix2 r l) = rst (wn c arg1 f1) 12 r)
    (hmono : ∀ d, d < 12 → wn c arg1 f1 d ≤ wn c arg1 f1 (d + 1))
    (d : ℕ) (hd : d < 12) (j : ℕ) (hj : j < 4) (l : Fin 128) :
    rowM c i arg1 arg2 arg3 arg4 arg5 arg15 arg16 arg17 f1 f2 f3 f4 f5 f15 f16 f17 hcu hE d hd j hj (ix2 0 l)
      = docMax c i arg1 arg2 arg3 arg4 arg5 f1 f2 f3 f4 f5 d (⟨128 * j + l.val, by omega⟩ : Fin 512) := by
  have hle := wn_le c arg1 f1 hcu (d + 1)
  have hm := mask_iff (wd c arg1 f1 d (by omega)) (wd c arg1 f1 (d + 1) (by omega))
    (by rw [wd_toNat, wd_toNat]; exact hmono d hd) (by rw [wd_toNat]; exact hle)
  simp only [wd_toNat] at hm
  pointwise [rowM]
  refine Eq.trans ?_ (doc_sup (wn c arg1 f1) hmono (fun r => tS c i arg2 arg3 arg4 arg5 f2 f3 f4 f5 r (⟨128 * j + l.val, by omega⟩ : Fin 512)) d hd hle
    (fun s => Scalar.select (IntOp.cmpi CmpIPredicate.sge (BitVec.ofNat 32 s.val) (Scalar.addi (Scalar.subi (wd c arg1 f1 d (by omega)) (wd c arg1 f1 (d + 1) (by omega))) 8#32))
          (rd c i arg1 arg2 arg3 arg4 arg5 arg15 arg16 arg17 f1 f2 f3 f4 f5 f15 f16 f17 hcu hE d hd j hj (ix2 s l)) (Ideal.ofBits FTy.f32 4286578688#32)) ?_ ?_)
  · rw [Finset.sup, show (⊥ : EReal) = Ideal.ofBits FTy.f32 4286578688#32 from neg_inf.symm]
  · intro s hs
    beta_reduce
    refine (if_pos ((hm s).2 hs)).trans ?_
    exact rd_at c i arg1 arg2 arg3 arg4 arg5 arg15 arg16 arg17 f1 f2 f3 f4 f5 f15 f16 f17 hcu hE h16 h17 d hd j hj s l (by omega)
  · intro s hs
    beta_reduce
    exact (if_neg (fun h => hs ((hm s).1 h))).trans neg_inf

theorem mxV_at (h16 : k0_cond1 i ≠ 1#1 → ∀ r l, arg16.view.read (Elt Ideal) f16 (ix2 r l) = arg3.view.read (Elt Ideal) f3 (ix2 r 0))
    (h17 : k0_cond1 i ≠ 1#1 → ∀ (r : Fin 1544) l, arg17.view.read (Elt Ideal) f17 (ix2 r l) = rst (wn c arg1 f1) 12 r)
    (hmono : ∀ d, d < 12 → wn c arg1 f1 d ≤ wn c arg1 f1 (d + 1))
    (j : ℕ) (hj : j < 4) (d : Fin 16) (l : Fin 128) :
    mxV c i arg1 arg2 arg3 arg4 arg5 arg15 arg16 arg17 f1 f2 f3 f4 f5 f15 f16 f17 hcu hE j hj (ix2 d l)
      = if d.val < 12 then docMax c i arg1 arg2 arg3 arg4 arg5 f1 f2 f3 f4 f5 d.val (⟨128 * j + l.val, by omega⟩ : Fin 512) else ⊥ := by
  have hr := fun d hd => rowM_at c i arg1 arg2 arg3 arg4 arg5 arg15 arg16 arg17 f1 f2 f3 f4 f5 f15 f16 f17 hcu hE h16 h17 hmono d hd j hj l
  fin_cases d <;> pointwise [mxV] <;> first | exact hr _ _ | exact neg_inf

/-- The column test of the kernel. -/
theorem col_iff (n : ℕ) (hn : n < 99) (l : Fin 512) :
    IntOp.cmpi CmpIPredicate.slt (IntOp.addi (Scalar.muli (BitVec.ofNat 32 n) 512#32) (BitVec.ofNat 32 l.val)) 50368#32 = 1#1 ↔ 512 * n + l.val < 50368 := by
  have e : IntOp.cmpi CmpIPredicate.slt (IntOp.addi (Scalar.muli (BitVec.ofNat 32 n) 512#32) (BitVec.ofNat 32 l.val)) 50368#32
      = BitVec.ofBool ((BitVec.ofNat 32 n * 512#32 + BitVec.ofNat 32 l.val).slt 50368#32) := rfl
  have hl := l.isLt
  have key : (BitVec.ofNat 32 n * 512#32 + BitVec.ofNat 32 l.val).slt 50368#32 = true ↔ 512 * n + l.val < 50368 := by
    rw [BitVec.slt_eq_decide, decide_eq_true_iff, BitVec.toInt_eq_toNat_cond, BitVec.toInt_eq_toNat_cond, BitVec.toNat_add, BitVec.toNat_mul,
      BitVec.toNat_ofNat, BitVec.toNat_ofNat, BitVec.toNat_ofNat, BitVec.toNat_ofNat]
    split <;> split <;> omega
  rw [e, ← key]
  cases (BitVec.ofNat 32 n * 512#32 + BitVec.ofNat 32 l.val).slt 50368#32 <;> decide

/-- The tile at row `d` and column `l`. -/
theorem tileV_at (h16 : k0_cond1 i ≠ 1#1 → ∀ r l, arg16.view.read (Elt Ideal) f16 (ix2 r l) = arg3.view.read (Elt Ideal) f3 (ix2 r 0))
    (h17 : k0_cond1 i ≠ 1#1 → ∀ (r : Fin 1544) l, arg17.view.read (Elt Ideal) f17 (ix2 r l) = rst (wn c arg1 f1) 12 r)
    (hmono : ∀ d, d < 12 → wn c arg1 f1 d ≤ wn c arg1 f1 (d + 1))
    (d : Fin 16) (l : Fin 512) :
    tileV c i arg1 arg2 arg3 arg4 arg5 arg6 arg15 arg16 arg17 f1 f2 f3 f4 f5 f6 f15 f16 f17 hcu hE (ix2 d l)
      = if d.val < 12 ∧ 512 * (i 0).val + l.val < 50368 then
          Ideal.log1p (max (docMax c i arg1 arg2 arg3 arg4 arg5 f1 f2 f3 f4 f5 d.val l
            + arg6.view.read (Elt Ideal) f6 (ix2 0 (⟨512 * (i 0).val + l.val, by have := i_lt i; omega⟩ : Fin 50688))) 0)
        else 0 := by
  have hmx := fun j hj l => mxV_at c i arg1 arg2 arg3 arg4 arg5 arg15 arg16 arg17 f1 f2 f3 f4 f5 f15 f16 f17 hcu hE h16 h17 hmono j hj d l
  have hb : View.readAt (Elt Ideal) arg6.view (Rect.unit (s := S1x50688) (k0_off62 i) S1x512.size (k0_off62_inb i)).toLoadRect f6 (ix2 0 l)
      = arg6.view.read (Elt Ideal) f6 (ix2 0 (⟨512 * (i 0).val + l.val, by have := i_lt i; omega⟩ : Fin 50688)) := by
    refine readU _ _ _ _ _ fun a => ?_
    refine Eq.trans ?_ (congrArg (fun z : Fin 2 → ℕ => z a + (ix2 (0 : Fin 1) l a).val) (k0_off62_eq i)).symm
    fin_cases a <;> rfl
  have h0 : Ideal.log1p (0 : EReal) = 0 := by
    rw [Ideal.log1p, add_zero, ← EReal.coe_one]
    show (if (1 : ℝ) ≤ 0 then (⊥ : EReal) else ((Real.log 1 : ℝ) : EReal)) = 0
    rw [if_neg (by norm_num), Real.log_one, EReal.coe_zero]
  have hm : (if h : l.val < 128 then mxV c i arg1 arg2 arg3 arg4 arg5 arg15 arg16 arg17 f1 f2 f3 f4 f5 f15 f16 f17 hcu hE 0 (by decide) (ix2 d ⟨l.val, h⟩)
            else
              if h : l.val - 128 < 128 then mxV c i arg1 arg2 arg3 arg4 arg5 arg15 arg16 arg17 f1 f2 f3 f4 f5 f15 f16 f17 hcu hE 1 (by decide) (ix2 d ⟨l.val - 128, h⟩)
              else
                if h : l.val - 128 - 128 < 128 then mxV c i arg1 arg2 arg3 arg4 arg5 arg15 arg16 arg17 f1 f2 f3 f4 f5 f15 f16 f17 hcu hE 2 (by decide) (ix2 d ⟨l.val - 128 - 128, h⟩)
                else mxV c i arg1 arg2 arg3 arg4 arg5 arg15 arg16 arg17 f1 f2 f3 f4 f5 f15 f16 f17 hcu hE 3 (by decide) (ix2 d ⟨l.val - 128 - 128 - 128, by have := l.isLt; omega⟩))
      = if d.val < 12 then docMax c i arg1 arg2 arg3 arg4 arg5 f1 f2 f3 f4 f5 d.val l else ⊥ := by
    have fin : ∀ (j : ℕ) (hj : j < 4) (k : Fin 128), 128 * j + k.val = l.val →
        mxV c i arg1 arg2 arg3 arg4 arg5 arg15 arg16 arg17 f1 f2 f3 f4 f5 f15 f16 f17 hcu hE j hj (ix2 d k)
          = if d.val < 12 then docMax c i arg1 arg2 arg3 arg4 arg5 f1 f2 f3 f4 f5 d.val l else ⊥ := fun j hj k hk =>
      (hmx j hj k).trans (congrArg (fun z => if d.val < 12 then docMax c i arg1 arg2 arg3 arg4 arg5 f1 f2 f3 f4 f5 d.val z else ⊥) (Fin.ext hk))
    by_cases a : l.val < 128
    · rw [dif_pos a]; exact fin _ _ _ (by show 128 * 0 + l.val = l.val; omega)
    rw [dif_neg a]
    by_cases b : l.val - 128 < 128
    · rw [dif_pos b]; exact fin _ _ _ (by show 128 * 1 + (l.val - 128) = l.val; omega)
    rw [dif_neg b]
    by_cases e : l.val - 128 - 128 < 128
    · rw [dif_pos e]; exact fin _ _ _ (by show 128 * 2 + (l.val - 128 - 128) = l.val; omega)
    rw [dif_neg e]
    exact fin _ _ _ (by show 128 * 3 + (l.val - 128 - 128 - 128) = l.val; omega)
  pointwise [tileV, actV]
  rw [hm, hb, show bodyRun.sl.v3 i = Scalar.muli (BitVec.ofNat 32 ((i 0).val)) 512#32 from rfl]
  by_cases hc : 512 * (i 0).val + l.val < 50368
  · refine (congrArg Ideal.log1p (if_pos ((col_iff _ (i_lt i) l).2 hc))).trans ?_
    by_cases hd : d.val < 12
    · rw [if_pos hd, if_pos ⟨hd, hc⟩]
    · rw [if_neg hd, if_neg (fun h => hd h.1), EReal.bot_add, max_eq_right bot_le, h0]
  · exact (congrArg Ideal.log1p (if_neg (fun h => hc ((col_iff _ (i_lt i) l).1 h)))).trans (h0.trans (if_neg (fun h => hc h.2)).symm)
end

end Cert.PoolIdeal.Model
-- ==== Proof.PoolStep.lean ====
/- One grid point's effect on the accumulated arrays, from what its tile holds: the columns of the activations and of the means
   written so far, and the running sums of the activations and of the squared means. -/
module

public import proofs.«01_k».proof.Proof.PoolTile

@[expose] public section

set_option maxRecDepth 16384

noncomputable section

namespace Cert.PoolIdeal.Model
open Cert.PoolIdeal Cert.PoolIdeal.Gen Cert.PoolIdeal.Body
open Idealize.ShloMosaic Idealize.ShloMosaic.TcCoe Idealize.ShloMosaic.Tactic

theorem cond1_iff (i : grid0.Coords) : k0_cond1 i = 1#1 ↔ (i 0).val = 0 := by
  have h : ∀ n : Fin 99, (Scalar.cmpi .ne (Scalar.extui (Scalar.cmpi .eq (BitVec.ofNat 32 n.val) 0#32)) 0#32 = 1#1) ↔ n.val = 0 := by
    decide +kernel
  exact h (i 0)

theorem cond2_iff (i : grid0.Coords) : k0_cond2 i = 1#1 ↔ (i 0).val = 98 := by
  have h : ∀ n : Fin 99, (Scalar.cmpi .ne (Scalar.extui (Scalar.cmpi .eq (BitVec.ofNat 32 n.val) 98#32)) 0#32 = 1#1) ↔ n.val = 98 := by
    decide +kernel
  exact h (i 0)

/-- A column's mean over the documents: the sixteen rows of the column by a twelfth. -/
def colMean (X : ℕ → ℕ → EReal) (n : ℕ) : EReal := (∑ d : Fin 16, X d.val n) * ((1 / 12 : ℝ) : EReal)

theorem meanV_at (T : FVec Ideal S16x512 .f32) (l : Fin 512) :
    meanV T (ix2 0 l) = (∑ d : Fin 16, T (ix2 d l)) * ((1 / 12 : ℝ) : EReal) := by
  have e : (Named.named κ "inv_n" 0x3DAAAAAB#32 : Ideal .f32) = ((1 / 12 : ℝ) : EReal) := IdealRules.named_const.ideal_named_scalar _ _ _ _ rfl
  pointwise [meanV]
  rw [e]

theorem diag_iff (n m : ℕ) (hn : n < 2 ^ 32) (hm : m < 2 ^ 32) (x : Fin n) (d : Fin m) :
    IntOp.cmpi CmpIPredicate.eq (BitVec.ofNat 32 x.val) (BitVec.ofNat 32 d.val) = 1#1 ↔ x.val = d.val := by
  have e : IntOp.cmpi CmpIPredicate.eq (BitVec.ofNat 32 x.val) (BitVec.ofNat 32 d.val)
      = BitVec.ofBool (BitVec.ofNat 32 x.val == BitVec.ofNat 32 d.val) := rfl
  have k : (BitVec.ofNat 32 x.val == BitVec.ofNat 32 d.val) = true ↔ x.val = d.val := by
    rw [beq_iff_eq, ← BitVec.toNat_inj, BitVec.toNat_ofNat, BitVec.toNat_ofNat, Nat.mod_eq_of_lt (x.isLt.trans hn), Nat.mod_eq_of_lt (d.isLt.trans hm)]
  rw [e, ← k]
  cases (BitVec.ofNat 32 x.val == BitVec.ofNat 32 d.val) <;> decide

theorem l1V_at (X : FVec Ideal S16x512 .f32) (d : Fin 12) :
    l1V X (ix2 0 d) = ∑ l : Fin 512, X (ix2 (⟨d.val, by omega⟩ : Fin 16) l) := by
  pointwise [l1V]
  refine (Finset.sum_eq_single (⟨d.val, by omega⟩ : Fin 16) (fun x _ hx => ?_) (fun h => absurd (Finset.mem_univ _) h)).trans ?_
  · refine if_neg fun h => hx (Fin.ext ?_)
    exact (diag_iff 16 12 (by decide) (by decide) x d).1 h
  · exact if_pos ((diag_iff 16 12 (by decide) (by decide) (⟨d.val, by omega⟩ : Fin 16) d).2 rfl)

theorem flV_at (X : FVec Ideal S1x512 .f32) : flV X (ix2 0 0) = ∑ l : Fin 512, X (ix2 0 l) := by
  pointwise [flV]

section
variable (c : Dev nD) (i : grid0.Coords) (arg13 : Memref sig .tc .vmem S16x50688 .f32) (arg14 : Memref sig .tc .vmem S1x50688 .f32)
  (arg18 : Memref sig .tc .vmem S16x512 .f32) (arg19 : Memref sig .tc .vmem S1x512 .f32) (T : FVec Ideal S16x512 .f32)
  (X : ℕ → ℕ → EReal) (hT : ∀ d l, T (ix2 d l) = X d.val (512 * (i 0).val + l.val))
include hT

theorem mean_at (l : Fin 512) : meanV T (ix2 0 l) = colMean X (512 * (i 0).val + l.val) := by
  rw [meanV_at, colMean]
  simp only [hT]

/-- The activations' columns. -/
theorem s13 (f13 : Bf (F := Ideal) c arg13)
    (hf : ∀ (d : Fin 16) (n : Fin 50688), n.val < 512 * (i 0).val → arg13.view.read (Elt Ideal) f13 (ix2 d n) = X d.val n.val)
    (d : Fin 16) (n : Fin 50688) (hn : n.val < 512 * ((i 0).val + 1)) :
    arg13.view.read (Elt Ideal) (arg13.view.writes (Elt Ideal) f13 (P13 i T)) (ix2 d n) = X d.val n.val := by
  by_cases h : 512 * (i 0).val ≤ n.val
  · refine (View.read_writes_cons_unit_of_mem _ _ _ _ _ _ (ix2 d (⟨n.val - 512 * (i 0).val, by omega⟩ : Fin 512)) (k0_off63_eq i) (fun a => by
      fin_cases a <;> [show d.val = 0 + d.val; show n.val = 512 * (i 0).val + (n.val - 512 * (i 0).val)] <;> omega)).trans ?_
    pointwise
    rw [hT]
    exact congrArg (X d.val) (by show 512 * (i 0).val + (n.val - 512 * (i 0).val) = n.val; omega)
  · refine (View.read_writes_cons_unit_of_not_mem _ _ _ _ _ _ (k0_off63_eq i) 1 (by
      show n.val < 512 * (i 0).val ∨ 512 * (i 0).val + 512 ≤ n.val; omega)).trans ?_
    exact hf d n (by omega)

/-- The means' columns. -/
theorem s14 (f14 : Bf (F := Ideal) c arg14)
    (hf : ∀ (n : Fin 50688), n.val < 512 * (i 0).val → arg14.view.read (Elt Ideal) f14 (ix2 0 n) = colMean X n.val)
    (n : Fin 50688) (hn : n.val < 512 * ((i 0).val + 1)) :
    arg14.view.read (Elt Ideal) (arg14.view.writes (Elt Ideal) f14 (P14 i T)) (ix2 0 n) = colMean X n.val := by
  by_cases h : 512 * (i 0).val ≤ n.val
  · refine (View.read_writes_cons_unit_of_mem _ _ _ _ _ _ (ix2 (0 : Fin 1) (⟨n.val - 512 * (i 0).val, by omega⟩ : Fin 512)) (k0_off62_eq i) (fun a => by
      fin_cases a <;> [show 0 = 0 + 0; show n.val = 512 * (i 0).val + (n.val - 512 * (i 0).val)] <;> omega)).trans ?_
    pointwise
    rw [mean_at i T X hT]
    exact congrArg (colMean X) (by show 512 * (i 0).val + (n.val - 512 * (i 0).val) = n.val; omega)
  · refine (View.read_writes_cons_unit_of_not_mem _ _ _ _ _ _ (k0_off62_eq i) 1 (by
      show n.val < 512 * (i 0).val ∨ 512 * (i 0).val + 512 ≤ n.val; omega)).trans ?_
    exact hf n (by omega)

/-- The accumulator before the point: zero at the first. -/
theorem b18 (f18 : Bf (F := Ideal) c arg18)
    (hf : (i 0).val ≠ 0 → ∀ (d : Fin 16) (l : Fin 512), arg18.view.read (Elt Ideal) f18 (ix2 d l) = ∑ k ∈ Finset.range (i 0).val, X d.val (512 * k + l.val))
    (d : Fin 16) (l : Fin 512) :
    arg18.view.read (Elt Ideal) (B18 c i arg18 f18) (ix2 d l) = ∑ k ∈ Finset.range (i 0).val, X d.val (512 * k + l.val) := by
  unfold B18
  split
  · rename_i h
    rw [View.read_writes_cons_unit_of_mem _ _ _ _ _ _ (ix2 d l) rfl (fun a => by fin_cases a <;> [show d.val = 0 + d.val; show l.val = 0 + l.val] <;> omega)]
    rw [(cond1_iff i).1 h, Finset.range_zero, Finset.sum_empty]
    pointwise
  · rename_i h
    exact hf (fun h' => h ((cond1_iff i).2 h')) d l

theorem b19 (f19 : Bf (F := Ideal) c arg19)
    (hf : (i 0).val ≠ 0 → ∀ (l : Fin 512), arg19.view.read (Elt Ideal) f19 (ix2 0 l) = ∑ k ∈ Finset.range (i 0).val, colMean X (512 * k + l.val) * colMean X (512 * k + l.val))
    (l : Fin 512) :
    arg19.view.read (Elt Ideal) (B19 c i arg19 f19) (ix2 0 l) = ∑ k ∈ Finset.range (i 0).val, colMean X (512 * k + l.val) * colMean X (512 * k + l.val) := by
  unfold B19
  split
  · rename_i h
    rw [View.read_writes_cons_unit_of_mem _ _ _ _ _ _ (ix2 (0 : Fin 1) l) rfl (fun a => by fin_cases a <;> [show 0 = 0 + 0; show l.val = 0 + l.val] <;> omega)]
    rw [(cond1_iff i).1 h, Finset.range_zero, Finset.sum_empty]
    pointwise
  · rename_i h
    exact hf (fun h' => h ((cond1_iff i).2 h')) l

theorem s18 (f18 : Bf (F := Ideal) c arg18)
    (hf : (i 0).val ≠ 0 → ∀ (d : Fin 16) (l : Fin 512), arg18.view.read (Elt Ideal) f18 (ix2 d l) = ∑ k ∈ Finset.range (i 0).val, X d.val (512 * k + l.val))
    (g : Bf (F := Ideal) c arg18) (d : Fin 16) (l : Fin 512) :
    arg18.view.read (Elt Ideal) (arg18.view.writes (Elt Ideal) g (P18 c i arg18 T f18)) (ix2 d l)
      = ∑ k ∈ Finset.range ((i 0).val + 1), X d.val (512 * k + l.val) := by
  rw [Finset.sum_range_succ, ← b18 c i arg18 T X hT f18 hf d l, ← hT]
  refine (View.read_writes_cons_unit_of_mem _ _ _ _ _ _ (ix2 d l) rfl (fun a => by fin_cases a <;> [show d.val = 0 + d.val; show l.val = 0 + l.val] <;> omega)).trans ?_
  pointwise
  refine congrArg (· + T (ix2 d l)) ?_
  exact readU _ _ _ _ _ fun a => by fin_cases a <;> [show d.val = 0 + d.val; show l.val = 0 + l.val] <;> omega

theorem s19 (f19 : Bf (F := Ideal) c arg19)
    (hf : (i 0).val ≠ 0 → ∀ (l : Fin 512), arg19.view.read (Elt Ideal) f19 (ix2 0 l) = ∑ k ∈ Finset.range (i 0).val, colMean X (512 * k + l.val) * colMean X (512 * k + l.val))
    (g : Bf (F := Ideal) c arg19) (l : Fin 512) :
    arg19.view.read (Elt Ideal) (arg19.view.writes (Elt Ideal) g (P19 c i arg19 T f19)) (ix2 0 l)
      = ∑ k ∈ Finset.range ((i 0).val + 1), colMean X (512 * k + l.val) * colMean X (512 * k + l.val) := by
  rw [Finset.sum_range_succ, ← b19 c i arg19 T X hT f19 hf l, ← mean_at i T X hT]
  refine (View.read_writes_cons_unit_of_mem _ _ _ _ _ _ (ix2 (0 : Fin 1) l) rfl (fun a => by fin_cases a <;> [show 0 = 0 + 0; show l.val = 0 + l.val] <;> omega)).trans ?_
  pointwise [k0_pay1]
  refine congrArg (· + meanV T (ix2 0 l) * meanV T (ix2 0 l)) ?_
  exact readU _ _ _ _ _ fun a => by fin_cases a <;> [show 0 = 0 + 0; show l.val = 0 + l.val] <;> omega
end

end Cert.PoolIdeal.Model
-- ==== Proof.PoolRef.lean ====
/- What the pool's reference computes, element by element: at document `d` and vocabulary column `l` the logarithm of one plus the
   positive part of the document's largest score plus the bias; and its other results from that array. -/
module

public import proofs.«01_k».proof.Proof.Gen.RefPoolIdeal.Value
public import Idealize.ShloMosaic.Lib.Pointwise

@[expose] public section

set_option maxRecDepth 16384

noncomputable section

namespace Cert.RefPoolIdeal.Model
open Cert.RefPoolIdeal Cert.RefPoolIdeal.Gen
open Idealize.ShloMosaic Idealize.ShloMosaic.TcCoe Idealize.ShloMosaic.Tactic

/-- A maximum over the middle axis, at an index. -/
theorem max_mid {n0 n1 n2 : ℕ} (src : FVec Ideal (⟨3, ![n0, n1, n2]⟩ : Shape) .f32) (acc : BitVec 32)
    (h : (⟨3, ![n0, n1, n2]⟩ : Shape).Reduces [1] ⟨2, ![n0, n2]⟩) (hφ) (hacc) (d : Fin n0) (l : Fin n2) :
    multiReduction .maximumf [1] ⟨2, ![n0, n2]⟩ src acc h hφ hacc (ix2 d l)
      = (Finset.univ : Finset (Fin n1)).fold max (Ideal.ofBits .f32 acc) (fun k => src (ix3 d k l)) := by
  pointwise

/-- The maximum over the rows, minus infinity of none. -/
def maxRows (src : FVec Ideal S12x1536x50368 .f32) : FVec Ideal S12x50368 .f32 :=
  multiReduction .maximumf [1] S12x50368 src 0xFF800000#32 reduces_S12x1536x50368_S12x50368 (.inl rfl) rfl

theorem maxRows_at (src : FVec Ideal S12x1536x50368 .f32) (d : Fin 12) (l : Fin 50368) :
    maxRows src (ix2 d l) = (Finset.univ : Finset (Fin 1536)).fold max (Ideal.ofBits .f32 0xFF800000#32) (fun k => src (ix3 d k l)) :=
  max_mid (n0 := 12) (n1 := 1536) (n2 := 50368) src 0xFF800000#32 reduces_S12x1536x50368_S12x50368 (.inl rfl) rfl d l

/-- The largest activation of each document. -/
def amax (X : FVec Ideal S12x50368 .f32) : FVec Ideal S12 .f32 :=
  multiReduction .maximumf [1] S12 X 0xFF800000#32 reduces_S12x50368_S12 (.inl rfl) rfl

/-- The scores with the bias, for every row and column. -/
def logits (v0 : Vec Ideal S1536x1024 .fp8e4m3) (v1 : Vec Ideal S50368x1024 .fp8e4m3) (v3 : Vec Ideal S1536x1 .f32)
    (v6 : Vec Ideal S50368 .f32) (v10 : Vec Ideal S50368 .f32) : FVec Ideal S1536x50368 .f32 :=
  addf (mulf (mulf (matmul (φ₁ := .fp8e4m3) (φ₂ := .fp8e4m3) dot_S1536x1024_S50368x1024_S1536x50368_1_1_0_0_n_n none v0 v1 (constant S1536x50368 .f32 0x00000000#32))
      (broadcastTo S1536x50368 v3 broadcasts_S1536x1_S1536x50368))
      (broadcastTo S1536x50368 (shapeCast S1x50368 v6 shapeCasts_S50368_S1x50368) broadcasts_S1x50368_S1536x50368))
    (broadcastTo S1536x50368 (shapeCast S1x50368 v10 shapeCasts_S50368_S1x50368) broadcasts_S1x50368_S1536x50368)

/-- The rows of each document. -/
def inDoc (v15 v17 : Vec Ideal S13 .i32) : IVec S12x1536x50368 1 :=
  andi (cmpi .sle (broadcastTo S12x1536x50368 (shapeCast S12x1x1 (extractStridedSlice S12 ![0] v15 slices_S13_o0_S12) shapeCasts_S12_S12x1x1) broadcasts_S12x1x1_S12x1536x50368)
      (iota .tc S12x1536x50368 32 [1] iota_S12x1536x50368_d1_w32))
    (cmpi .slt (iota .tc S12x1536x50368 32 [1] iota_S12x1536x50368_d1_w32)
      (broadcastTo S12x1536x50368 (shapeCast S12x1x1 (extractStridedSlice S12 ![1] v17 slices_S13_o1_S12) shapeCasts_S12_S12x1x1) broadcasts_S12x1x1_S12x1536x50368))

theorem pay6_eq (v0 : Vec Ideal S1536x1024 .fp8e4m3) (v1 : Vec Ideal S50368x1024 .fp8e4m3) (v3 : Vec Ideal S1536x1 .f32)
    (v6 : Vec Ideal S50368 .f32) (v10 : Vec Ideal S50368 .f32) (v15 v17 : Vec Ideal S13 .i32) :
    k0_pay6 (F := Ideal) v0 v1 v3 v6 v10 v15 v17
      = log1p (maximumf (maxRows (select (inDoc v15 v17)
          (broadcastTo S12x1536x50368 (shapeCast S1x1536x50368 (shapeCast S1x1536x50368 (logits v0 v1 v3 v6 v10) shapeCasts_S1536x50368_S1x1536x50368)
            shapeCasts_S1x1536x50368_S1x1536x50368) broadcasts_S1x1536x50368_S12x1536x50368)
          (broadcast S12x1536x50368 (FloatOps.ofBits .f32 0xFF800000#32)))) (broadcast S12x50368 (FloatOps.ofBits .f32 0x00000000#32))) := rfl

theorem logits_at (v0 : Vec Ideal S1536x1024 .fp8e4m3) (v1 : Vec Ideal S50368x1024 .fp8e4m3) (v3 : Vec Ideal S1536x1 .f32)
    (v6 : Vec Ideal S50368 .f32) (v10 : Vec Ideal S50368 .f32) (r : Fin 1536) (l : Fin 50368) :
    logits v0 v1 v3 v6 v10 (ix2 r l) = (∑ k : Fin 1024, v0 (ix2 r k) * v1 (ix2 l k)) * v3 (ix2 r 0) * v6 (ix1 l) + v10 (ix1 l) := by
  pointwise [logits]

theorem inDoc_at (v15 v17 : Vec Ideal S13 .i32) (d : Fin 12) (r : Fin 1536) (l : Fin 50368)
    (h1 : (v15 (ix1 d.castSucc) : BitVec 32).toNat ≤ 896) (h2 : (v17 (ix1 d.succ) : BitVec 32).toNat ≤ 896) :
    inDoc v15 v17 (ix3 d r l) = 1#1 ↔ (v15 (ix1 d.castSucc) : BitVec 32).toNat ≤ r.val ∧ r.val < (v17 (ix1 d.succ) : BitVec 32).toNat := by
  pointwise [inDoc]
  rw [show (⟨1 + d.val, by omega⟩ : Fin 13) = d.succ from Fin.ext (Nat.add_comm 1 d.val), show (⟨d.val, by omega⟩ : Fin 13) = d.castSucc from rfl]
  generalize (v15 (ix1 d.castSucc) : BitVec 32) = a at *
  generalize (v17 (ix1 d.succ) : BitVec 32) = b at *
  have hr := r.isLt
  have hn : (BitVec.ofNat 32 r.val).toNat = r.val := by rw [BitVec.toNat_ofNat]; omega
  have e : IntOp.andi (IntOp.cmpi CmpIPredicate.sle a (BitVec.ofNat 32 r.val)) (IntOp.cmpi CmpIPredicate.slt (BitVec.ofNat 32 r.val) b)
      = BitVec.ofBool (a.sle (BitVec.ofNat 32 r.val)) &&& BitVec.ofBool ((BitVec.ofNat 32 r.val).slt b) := rfl
  have k1 : a.sle (BitVec.ofNat 32 r.val) = true ↔ a.toNat ≤ r.val := by
    rw [BitVec.sle_eq_decide, decide_eq_true_iff, BitVec.toInt_eq_toNat_cond, BitVec.toInt_eq_toNat_cond, hn]
    split <;> split <;> omega
  have k2 : (BitVec.ofNat 32 r.val).slt b = true ↔ r.val < b.toNat := by
    rw [BitVec.slt_eq_decide, decide_eq_true_iff, BitVec.toInt_eq_toNat_cond, BitVec.toInt_eq_toNat_cond, hn]
    split <;> split <;> omega
  rw [e, ← k1, ← k2]
  cases a.sle (BitVec.ofNat 32 r.val) <;> cases (BitVec.ofNat 32 r.val).slt b <;> decide

theorem spread_at (v13 : FVec Ideal S1536x50368 .f32) (d : Fin 12) (r : Fin 1536) (l : Fin 50368) :
    broadcastTo S12x1536x50368 (shapeCast S1x1536x50368 (shapeCast S1x1536x50368 v13 shapeCasts_S1536x50368_S1x1536x50368)
            shapeCasts_S1x1536x50368_S1x1536x50368) broadcasts_S1x1536x50368_S12x1536x50368 (ix3 d r l) = v13 (ix2 r l) := by
  pointwise

theorem relu_at {s : Shape} (X : FVec Ideal s .f32) (j : s.Idx) :
    log1p (maximumf X (broadcast s (FloatOps.ofBits .f32 0x00000000#32))) j = Ideal.log1p (max (X j) 0) := by
  pointwise

theorem pick_at {s : Shape} (P : IVec s 1) (X : FVec Ideal s .f32) (j : s.Idx) :
    select P X (broadcast s (FloatOps.ofBits .f32 0xFF800000#32)) j = if P j = 1#1 then X j else Ideal.ofBits .f32 0xFF800000#32 := by
  pointwise
  rfl

/-- The bias may be added after the maximum. -/
theorem sup_add {n : ℕ} (P : Fin n → Prop) [DecidablePred P] (t : Fin n → EReal) (b : EReal) :
    Finset.univ.sup (fun r => if P r then t r + b else ⊥) = Finset.univ.sup (fun r => if P r then t r else ⊥) + b := by
  have hm : Monotone fun x : EReal => x + b := fun x y h => add_le_add_left h b
  rw [Finset.apply_sup_eq_sup_comp (fun x : EReal => x + b) (fun x y => hm.map_sup x y) (EReal.bot_add b)]
  refine Finset.sup_congr rfl fun r _ => ?_
  show _ = (if P r then t r else ⊥) + b
  split
  · rfl
  · exact (EReal.bot_add b).symm

/-- The activation at document `d` and column `l`. -/
def act (v0 : Vec Ideal S1536x1024 .fp8e4m3) (v1 : Vec Ideal S50368x1024 .fp8e4m3) (v3 : Vec Ideal S1536x1 .f32)
    (v6 : Vec Ideal S50368 .f32) (v10 : Vec Ideal S50368 .f32) (v15 : Vec Ideal S13 .i32) (d : Fin 12) (l : Fin 50368) : EReal :=
  Ideal.log1p (max (Finset.univ.sup (fun r : Fin 1536 =>
    if (v15 (ix1 d.castSucc) : BitVec 32).toNat ≤ r.val ∧ r.val < (v15 (ix1 d.succ) : BitVec 32).toNat then
      (∑ k : Fin 1024, v0 (ix2 r k) * v1 (ix2 l k)) * v3 (ix2 r 0) * v6 (ix1 l) else ⊥) + v10 (ix1 l)) 0)

theorem pay6_at (v0 : Vec Ideal S1536x1024 .fp8e4m3) (v1 : Vec Ideal S50368x1024 .fp8e4m3) (v3 : Vec Ideal S1536x1 .f32)
    (v6 : Vec Ideal S50368 .f32) (v10 : Vec Ideal S50368 .f32) (v15 : Vec Ideal S13 .i32)
    (hle : ∀ y, (v15 y : BitVec 32).toNat ≤ 896) (d : Fin 12) (l : Fin 50368) :
    k0_pay6 (F := Ideal) v0 v1 v3 v6 v10 v15 v15 (ix2 d l) = act v0 v1 v3 v6 v10 v15 d l := by
  have hneg : (Ideal.ofBits .f32 0xFF800000#32 : EReal) = ⊥ := by simp [Ideal.ofBits, Ideal.ieee]
  rw [pay6_eq]
  rw [relu_at, maxRows_at, hneg, act, ← sup_add, Finset.sup]
  refine congrArg (fun f => Ideal.log1p (max (Finset.fold max ⊥ f Finset.univ) 0)) (funext fun r => ?_)
  rw [pick_at, spread_at, logits_at, hneg]
  by_cases h : (v15 (ix1 d.castSucc) : BitVec 32).toNat ≤ r.val ∧ r.val < (v15 (ix1 d.succ) : BitVec 32).toNat
  · exact (if_pos ((inDoc_at v15 v15 d r l (hle _) (hle _)).2 h)).trans (if_pos h).symm
  · exact (if_neg (fun h' => h ((inDoc_at v15 v15 d r l (hle _) (hle _)).1 h'))).trans ((if_neg h).symm)

/-! ### The other results, from the activations -/

/-- Two arrays of rank two with the same elements. -/
theorem ext2 {n0 n1 : ℕ} {α : Type} (f g : (⟨2, ![n0, n1]⟩ : Shape).Idx → α) (h : ∀ a b, f (ix2 a b) = g (ix2 a b)) : f = g :=
  funext fun j => by rw [eq_ix2 j]; exact h _ _

theorem pay8_eq (a0 : Vec Ideal S13 .i32) (a1 : Vec Ideal S1536x1024 .fp8e4m3) (a2 : Vec Ideal S1536x1 .f32) (a3 : Vec Ideal S50368x1024 .fp8e4m3)
    (a4 a5 : Vec Ideal S50368 .f32) : k0_pay8 (F := Ideal) a0 a1 a2 a3 a4 a5 = k0_pay6 a1 a3 a2 a4 a5 a0 a0 := by
  unfold k0_pay8
  rw [View.ld_unit_zero (S := S1536x1024) Value.hz1 _ a1, View.ld_unit_zero (S := S50368x1024) Value.hz3 _ a3, View.ld_unit_zero (S := S1536x1) Value.hz2 _ a2, View.ld_unit_zero (S := S50368) Value.hz4 _ a4, View.ld_unit_zero (S := S50368) Value.hz5 _ a5, View.ld_unit_zero (S := S13) Value.hz0 _ a0]

theorem pay7_at (v0 : Vec Ideal S1536x1024 .fp8e4m3) (v1 : Vec Ideal S50368x1024 .fp8e4m3) (v3 : Vec Ideal S1536x1 .f32)
    (v6 : Vec Ideal S50368 .f32) (v10 : Vec Ideal S50368 .f32) (v15 v17 : Vec Ideal S13 .i32) (d : Fin 12) :
    k0_pay7 (F := Ideal) v0 v1 v3 v6 v10 v15 v17 (ix2 0 d) = ∑ n : Fin 50368, k0_pay6 v0 v1 v3 v6 v10 v15 v17 (ix2 d n) := by
  pointwise [k0_pay7]

theorem pay1_at (X : FVec Ideal S12x50368 .f32) (n : Fin 50368) :
    k0_pay1 X (ix2 0 n) = (∑ d : Fin 12, X (ix2 d n)) * ((1 / 12 : ℝ) : EReal) := by
  have h12 : (Ideal.ofBits FTy.f32 1094713344#32 : EReal) = ((12 : ℝ) : EReal) := by
    simp [Ideal.ofBits, Ideal.ieee, -EReal.coe_mul]; norm_num
  pointwise [k0_pay1]
  rw [h12, Ideal.div_coe (by norm_num : (12 : ℝ) ≠ 0)]

theorem pay2_at (X : FVec Ideal S12x50368 .f32) : k0_pay2 X (ix2 0 0) = ∑ n : Fin 50368, k0_pay1 X (ix2 0 n) * k0_pay1 X (ix2 0 n) := by
  pointwise [k0_pay2]

/-- The scale of a largest activation. -/
def scl (a : EReal) : EReal :=
  Scalar.select (FloatOps.cmpf (F := Ideal) (φ := .f32) .oeq a 0) 1 (Ideal.div a (Ideal.ofBits .f32 0x437F0000#32))

/-- The code of an activation. -/
def code (x s : EReal) : BitVec 8 :=
  BitVec.setWidth 8 (FloatOps.fptosi (F := Ideal) (φ := .f32) 32
    (min (Ideal.ofBits .f32 0x437F0000#32) (max (((0#32).toInt : ℝ) : EReal) (Ideal.liftRound Ideal.roundHalfEven (Ideal.div x s)))))

/-- The documents' scales from their largest activations. -/
def scales (A : FVec Ideal S12 .f32) : FVec Ideal S12 .f32 :=
  select (cmpf .oeq A (broadcast S12 (FloatOps.ofBits .f32 0x00000000#32)))
    (broadcast S12 (FloatOps.ofBits .f32 0x3F800000#32)) (divf A (broadcast S12 (FloatOps.ofBits .f32 0x437F0000#32)))

theorem scales_at (A : FVec Ideal S12 .f32) (d : Fin 12) : scales A (ix1 d) = scl (A (ix1 d)) := by
  pointwise [scales, scl]

/-- The codes from the activations and the scales. -/
def codes (X : FVec Ideal S12x50368 .f32) (A : FVec Ideal S12 .f32) : IVec S12x50368 8 :=
  trunci 8 (fptosi 32 (minimumf (broadcast S12x50368 (Scalar.ofBits .f32 0x437F0000#32)) (maximumf (broadcast S12x50368 (Scalar.sitofp .f32 0#32))
    (roundeven (divf X (broadcastTo S12x50368 (shapeCast S12x1 A shapeCasts_S12_S12x1) broadcasts_S12x1_S12x50368)))))) natLt_8_32

theorem codes_at (X : FVec Ideal S12x50368 .f32) (A : FVec Ideal S12 .f32) (d : Fin 12) (n : Fin 50368) :
    codes X A (ix2 d n) = code (X (ix2 d n)) (A (ix1 d)) := by
  pointwise [codes, code]

theorem row_at (A : FVec Ideal S12 .f32) (d : Fin 12) : shapeCast S1x12 A shapeCasts_S12_S1x12 (ix2 0 d) = A (ix1 d) := by
  pointwise

theorem pay4_eq (X : FVec Ideal S12x50368 .f32) : k0_pay4 X = shapeCast S1x12 (scales (amax X)) shapeCasts_S12_S1x12 := by
  sl_kernel_rfl
theorem pay5_eq (X : FVec Ideal S12x50368 .f32) : k0_pay5 X = codes X (scales (amax X)) := by
  sl_kernel_rfl

end Cert.RefPoolIdeal.Model
-- ==== Proof.PoolJoin.lean ====
/- Kernel against reference, the pool: a tile holds the reference's activations (zero outside the documents and the vocabulary), and
   each of the kernel's results, as its last grid point computes it, is the reference's. -/
module

public import proofs.«01_k».proof.Proof.PoolStep
public import proofs.«01_k».proof.Proof.PoolRef

@[expose] public section

set_option maxRecDepth 16384

noncomputable section

namespace Cert.PoolIdeal.Model
open Cert.PoolIdeal Cert.PoolIdeal.Gen Cert.PoolIdeal.Body
open Idealize.ShloMosaic Idealize.ShloMosaic.TcCoe Idealize.ShloMosaic.Tactic
open Cert.RefPoolIdeal.Model (act amax pay6_at ext2 pay8_eq pay7_at pay1_at pay2_at scl code scales_at codes_at row_at pay4_eq pay5_eq)

section
variable (cu : Vec Ideal S13 .i32) (z : Vec Ideal S1536x1024 .fp8e4m3) (zs : Vec Ideal S1536x1 .f32) (emb : Vec Ideal S50368x1024 .fp8e4m3)
  (es bv : Vec Ideal S50368 .f32)

/-- The activations with zeros around them. -/
def XP (d n : ℕ) : EReal := if h : d < 12 ∧ n < 50368 then act z emb zs es bv cu ⟨d, h.1⟩ ⟨n, h.2⟩ else 0

theorem XP_col (d n : ℕ) (h : 50368 ≤ n) : XP cu z zs emb es bv d n = 0 := dif_neg fun h' => by omega
theorem XP_row (d n : ℕ) (h : 12 ≤ d) : XP cu z zs emb es bv d n = 0 := dif_neg fun h' => by omega

section
variable (c : Dev nD) (i : grid0.Coords) (arg1 : Memref sig .tc .smem S13 .i32) (arg2 : Memref sig .tc .vmem S1536x1024 .fp8e4m3)
  (arg3 : Memref sig .tc .vmem S1536x1 .f32) (arg4 : Memref sig .tc .vmem S512x1024 .fp8e4m3) (arg5 : Memref sig .tc .vmem S1x50688 .f32)
  (arg6 : Memref sig .tc .vmem S1x50688 .f32)
  (arg15 : Memref sig .tc .vmem S4x904x128 .f32) (arg16 : Memref sig .tc .vmem S1536x128 .f32) (arg17 : Memref sig .tc .vmem S1544x128 .f32)
  (f1 : Bf (F := Ideal) c arg1) (f2 : Bf (F := Ideal) c arg2) (f3 : Bf (F := Ideal) c arg3) (f4 : Bf (F := Ideal) c arg4)
  (f5 : Bf (F := Ideal) c arg5) (f6 : Bf (F := Ideal) c arg6) (f15 : Bf (F := Ideal) c arg15) (f16 : Bf (F := Ideal) c arg16)
  (f17 : Bf (F := Ideal) c arg17)
  (hcu : ∀ y, (arg1.view.read (Elt Ideal) f1 y : BitVec 32).toNat ≤ 896)
  (hE : ∀ j, j < 4 → ∀ a, k0_off13 i (BitVec.ofNat 32 (128 * j)) a + S1x128.size a ≤ S1x50688.size a)

/-- The tile of a grid point whose input buffers hold the arguments' blocks. -/
theorem tile_eq
    (hstep : ∀ d : Fin 12, (cu (ix1 d.castSucc) : BitVec 32).toNat ≤ (cu (ix1 d.succ) : BitVec 32).toNat)
    (h1 : ∀ k : Fin 13, arg1.view.read (Elt Ideal) f1 (ix1 k) = cu (ix1 k))
    (h2 : ∀ (r : Fin 1536) (k : Fin 1024), arg2.view.read (Elt Ideal) f2 (ix2 r k) = z (ix2 r k))
    (h3 : ∀ (r : Fin 1536), arg3.view.read (Elt Ideal) f3 (ix2 r 0) = zs (ix2 r 0))
    (h4 : ∀ (l : Fin 512) (k : Fin 1024) (h : 512 * (i 0).val + l.val < 50368),
      arg4.view.read (Elt Ideal) f4 (ix2 l k) = emb (ix2 (⟨512 * (i 0).val + l.val, h⟩ : Fin 50368) k))
    (h5 : ∀ (n : Fin 50688) (h : n.val < 50368), arg5.view.read (Elt Ideal) f5 (ix2 0 n) = es (ix1 (⟨n.val, h⟩ : Fin 50368)))
    (h6 : ∀ (n : Fin 50688) (h : n.val < 50368), arg6.view.read (Elt Ideal) f6 (ix2 0 n) = bv (ix1 (⟨n.val, h⟩ : Fin 50368)))
    (h16 : (i 0).val ≠ 0 → ∀ (r : Fin 1536) (l : Fin 128), arg16.view.read (Elt Ideal) f16 (ix2 r l) = zs (ix2 r 0))
    (h17 : (i 0).val ≠ 0 → ∀ (r : Fin 1544) (l : Fin 128), arg17.view.read (Elt Ideal) f17 (ix2 r l) = rst (wn c arg1 f1) 12 r)
    (d : Fin 16) (l : Fin 512) :
    tileV c i arg1 arg2 arg3 arg4 arg5 arg6 arg15 arg16 arg17 f1 f2 f3 f4 f5 f6 f15 f16 f17 hcu hE (ix2 d l)
      = XP cu z zs emb es bv d.val (512 * (i 0).val + l.val) := by
  have hw : ∀ k : Fin 13, wn c arg1 f1 k.val = (cu (ix1 k) : BitVec 32).toNat := fun k => by
    rw [wn, dif_pos k.isLt]; exact congrArg BitVec.toNat (h1 k)
  have hw0 : ∀ d : Fin 12, wn c arg1 f1 d.val = (cu (ix1 d.castSucc) : BitVec 32).toNat := fun d => hw d.castSucc
  have hw1 : ∀ d : Fin 12, wn c arg1 f1 (d.val + 1) = (cu (ix1 d.succ) : BitVec 32).toNat := fun d => hw d.succ
  rw [tileV_at c i arg1 arg2 arg3 arg4 arg5 arg6 arg15 arg16 arg17 f1 f2 f3 f4 f5 f6 f15 f16 f17 hcu hE
    (fun h r l => (h16 (fun h' => h ((cond1_iff i).2 h')) r l).trans (h3 r).symm) (fun h => h17 (fun h' => h ((cond1_iff i).2 h')))
    (fun d hd => by have := hstep ⟨d, hd⟩; rw [← hw0, ← hw1] at this; exact this), XP]
  by_cases h : d.val < 12 ∧ 512 * (i 0).val + l.val < 50368
  · rw [if_pos h, dif_pos h, act, h6 _ h.2, docMax]
    refine congrArg (fun f : Fin 1536 → EReal => Ideal.log1p (max (Finset.univ.sup f + bv (ix1 (⟨512 * (i 0).val + l.val, h.2⟩ : Fin 50368))) 0)) (funext fun r => ?_)
    rw [hw0 ⟨d.val, h.1⟩, hw1 ⟨d.val, h.1⟩, tS, dif_pos r.isLt, h3, h5 _ h.2]
    simp only [h2, h4 l _ h.2]
  · rw [if_neg h, dif_neg h]
end

/-! ### The results -/

/-- A sum over the tiles' columns, lane by lane, of a function that is zero past the vocabulary. -/
theorem tile_sum (f : ℕ → EReal) (h0 : ∀ n, 50368 ≤ n → f n = 0) :
    ∑ l : Fin 512, ∑ k ∈ Finset.range 99, f (512 * k + l.val) = ∑ n : Fin 50368, f n.val := by
  have key : ∀ K : ℕ, ∑ k ∈ Finset.range K, ∑ l ∈ Finset.range 512, f (512 * k + l) = ∑ n ∈ Finset.range (512 * K), f n := by
    intro K
    induction K with
    | zero => rfl
    | succ K ih => rw [Finset.sum_range_succ, ih, Nat.mul_succ, Finset.sum_range_add]
  rw [Finset.sum_comm, Fin.sum_univ_eq_sum_range f 50368]
  have e : ∀ k, ∑ l : Fin 512, f (512 * k + l.val) = ∑ l ∈ Finset.range 512, f (512 * k + l) := fun k =>
    Fin.sum_univ_eq_sum_range (fun l => f (512 * k + l)) 512
  rw [Finset.sum_congr rfl (fun k _ => e k), key, show 512 * 99 = 50368 + 320 from rfl, Finset.sum_range_add,
    Finset.sum_eq_zero (s := Finset.range 320) (fun k _ => h0 _ (Nat.le_add_right _ _)), add_zero]

variable (hle : ∀ y, (cu y : BitVec 32).toNat ≤ 896)
include hle

/-- The reference's activations. -/
abbrev G : FVec Ideal Cert.RefPoolIdeal.S12x50368 .f32 := Cert.RefPoolIdeal.Value.G6 (F := Ideal) cu z zs emb es bv

theorem G_at (d : Fin 12) (n : Fin 50368) : G cu z zs emb es bv (ix2 d n) = XP cu z zs emb es bv d.val n.val := by
  rw [XP, dif_pos ⟨d.isLt, n.isLt⟩]
  exact pay6_at z emb zs es bv cu hle d n

theorem out7 (R : FVec Ideal S12x50368 .f32) (hR : ∀ (d : Fin 12) (n : Fin 50368), R (ix2 d n) = XP cu z zs emb es bv d.val n.val) :
    R = G cu z zs emb es bv :=
  ext2 _ _ fun d n => (hR d n).trans (G_at cu z zs emb es bv hle d n).symm

omit hle in
theorem ext_row {n1 : ℕ} {α : Type} (f g : (⟨2, ![1, n1]⟩ : Shape).Idx → α) (h : ∀ b, f (ix2 0 b) = g (ix2 0 b)) : f = g :=
  ext2 f g fun a b => by rw [Subsingleton.elim a 0]; exact h b

theorem out8 (X : FVec Ideal S16x512 .f32)
    (hX : ∀ (d : Fin 16) (l : Fin 512), X (ix2 d l) = ∑ k ∈ Finset.range 99, XP cu z zs emb es bv d.val (512 * k + l.val)) :
    l1V X = Cert.RefPoolIdeal.Value.G7 (F := Ideal) cu z zs emb es bv := by
  refine ext_row _ _ fun d => ?_
  rw [l1V_at]
  simp only [hX]
  rw [tile_sum (fun n => XP cu z zs emb es bv d.val n) (fun n h => XP_col cu z zs emb es bv _ n h)]
  refine Eq.trans ?_ (pay7_at z emb zs es bv cu cu d).symm
  exact Finset.sum_congr rfl fun n _ => (G_at cu z zs emb es bv hle d n).symm

theorem col_eq (n : Fin 50368) : Cert.RefPoolIdeal.Gen.k0_pay1 (F := Ideal) (G cu z zs emb es bv) (ix2 0 n) = colMean (XP cu z zs emb es bv) n.val := by
  rw [pay1_at, colMean, Fin.sum_univ_eq_sum_range (fun d => XP cu z zs emb es bv d n.val) 16,
    show 16 = 12 + 4 from rfl, Finset.sum_range_add, Finset.sum_eq_zero (s := Finset.range 4) (fun k _ => XP_row cu z zs emb es bv _ _ (Nat.le_add_right _ _)), add_zero,
    ← Fin.sum_univ_eq_sum_range (fun d => XP cu z zs emb es bv d n.val) 12]
  exact congrArg (· * ((1 / 12 : ℝ) : EReal)) (Finset.sum_congr rfl fun d _ => G_at cu z zs emb es bv hle d n)

theorem out9 (R : FVec Ideal S1x50368 .f32) (hR : ∀ (n : Fin 50368), R (ix2 0 n) = colMean (XP cu z zs emb es bv) n.val) :
    R = Cert.RefPoolIdeal.Value.G8 (F := Ideal) cu z zs emb es bv := by
  refine ext_row _ _ fun n => ?_
  rw [Cert.RefPoolIdeal.Value.G8, pay8_eq, hR]
  exact (col_eq cu z zs emb es bv hle n).symm

theorem colMean_col (n : ℕ) (h : 50368 ≤ n) : colMean (XP cu z zs emb es bv) n = 0 := by
  rw [colMean, Finset.sum_eq_zero (fun d _ => XP_col cu z zs emb es bv _ n h), zero_mul]

theorem out10 (X : FVec Ideal S1x512 .f32)
    (hX : ∀ (l : Fin 512), X (ix2 0 l) = ∑ k ∈ Finset.range 99, colMean (XP cu z zs emb es bv) (512 * k + l.val) * colMean (XP cu z zs emb es bv) (512 * k + l.val)) :
    flV X = Cert.RefPoolIdeal.Value.G9 (F := Ideal) cu z zs emb es bv := by
  refine ext_row _ _ fun b => ?_
  rw [Subsingleton.elim b 0, flV_at]
  simp only [hX]
  rw [tile_sum (fun n => colMean (XP cu z zs emb es bv) n * colMean (XP cu z zs emb es bv) n)
    (fun n h => by rw [colMean_col cu z zs emb es bv hle n h, zero_mul]), Cert.RefPoolIdeal.Value.G9, pay8_eq, pay2_at]
  exact Finset.sum_congr rfl fun n _ => by rw [col_eq cu z zs emb es bv hle n]

/-- The kernel's scales, from the largest activations. -/
def scalesK (A : FVec Ideal S12 .f32) : FVec Ideal S12x1 .f32 :=
  select (cmpf .oeq (shapeCast S12x1 A shapeCasts_S12_S12x1) (broadcast S12x1 (FloatOps.ofBits .f32 0x00000000#32))) (broadcast S12x1 (FloatOps.ofBits .f32 0x3F800000#32))
    (divf (shapeCast S12x1 A shapeCasts_S12_S12x1) (broadcast S12x1 (FloatOps.ofBits .f32 0x437F0000#32)))

omit hle in
theorem scalesK_at (A : FVec Ideal S12 .f32) (d : Fin 12) : scalesK A (ix2 d 0) = scl (A (ix1 d)) := by
  pointwise [scalesK, scl]

omit hle in
theorem scV_eq (R : FVec Ideal S12x50368 .f32) : scV R = scalesK (amax R) := by
  sl_kernel_rfl

omit hle in
theorem diag_at (S : FVec Ideal S12x1 .f32) (d : Fin 12) :
    k0_pay2 S (iota .tc S12x128 32 [0] iota_S12x128_d0_w32) (iota .tc S12x128 32 [1] iota_S12x128_d1_w32) (ix2 0 d) = S (ix2 d 0) := by
  pointwise [k0_pay2]
  refine (Finset.sum_eq_single d (fun x _ hx => ?_) (fun h => absurd (Finset.mem_univ _) h)).trans ?_
  · refine if_neg fun h => hx (Fin.ext ?_)
    exact (diag_iff 12 12 (by decide) (by decide) x d).1 h
  · exact if_pos ((diag_iff 12 12 (by decide) (by decide) d d).2 rfl)

omit hle in
theorem codesK_at (X : FVec Ideal S12x50368 .f32) (S : FVec Ideal S12x1 .f32) (d : Fin 12) (n : Fin 50368) :
    k0_pay3 (F := Ideal) X S (ix2 d n) = code (X (ix2 d n)) (S (ix2 d 0)) := by
  pointwise [k0_pay3, code]

omit hle in
theorem out11 : k0_pay3 (F := Ideal) (G cu z zs emb es bv) (scV (G cu z zs emb es bv)) = Cert.RefPoolIdeal.Value.G10 (F := Ideal) cu z zs emb es bv := by
  refine ext2 _ _ fun d n => ?_
  rw [Cert.RefPoolIdeal.Value.G10, pay8_eq, pay5_eq, codes_at, scales_at, codesK_at, scV_eq, scalesK_at]

omit hle in
theorem out12 : k0_pay2 (scV (G cu z zs emb es bv)) (iota .tc S12x128 32 [0] iota_S12x128_d0_w32) (iota .tc S12x128 32 [1] iota_S12x128_d1_w32)
    = Cert.RefPoolIdeal.Value.G11 (F := Ideal) cu z zs emb es bv := by
  refine ext_row _ _ fun d => ?_
  rw [Cert.RefPoolIdeal.Value.G11, pay8_eq, pay4_eq, row_at, scales_at, diag_at, scV_eq, scalesK_at]
end

end Cert.PoolIdeal.Model
-- ==== Proof.PoolPoint.lean ====
/- One grid point of the pool on buffers that hold the arguments' blocks: what the scratch arrays hold after `n` points is carried
   to `n + 1`, and at the last point the six result buffers hold the reference's results. -/
module

public import proofs.«01_k».proof.Proof.PoolJoin

@[expose] public section

set_option maxRecDepth 16384

noncomputable section

namespace Cert.PoolIdeal.Model
open Cert.PoolIdeal Cert.PoolIdeal.Gen Cert.PoolIdeal.Body
open Idealize.ShloMosaic Idealize.ShloMosaic.TcCoe Idealize.ShloMosaic.Tactic

/-- A store through the whole rectangle, read back, is what was stored. -/
theorem read_whole {κ : Kind} {sp : Space} {s : Shape} {e : EltTy} {Val : EltTy → Type} (v : View sig κ sp s e) (f : v.ty.Contents Val)
    {off : Fin s.rank → ℕ} (inb : ∀ a, off a + s.size a ≤ s.size a) (w : s.Idx → Val e) :
    v.read Val (v.writes Val f [(⟨Rect.unit off s.size inb, w⟩ : View.Piece Val s e)]) = w := by
  funext y
  exact View.read_writes_cons_unit_of_mem v f inb w [] y y rfl (fun a => by have := inb a; omega)

section
variable (cu : Vec Ideal S13 .i32) (z : Vec Ideal S1536x1024 .fp8e4m3) (zs : Vec Ideal S1536x1 .f32) (emb : Vec Ideal S50368x1024 .fp8e4m3)
  (es bv : Vec Ideal S50368 .f32)

/-- The offsets as numbers. -/
def cuN (k : ℕ) : ℕ := if hk : k < 13 then (cu (ix1 (⟨k, hk⟩ : Fin 13)) : BitVec 32).toNat else 0

/-- What the staged inputs of point `i` hold. -/
structure Ins (c : Dev nD) (i : grid0.Coords) (arg1 : Memref sig .tc .smem S13 .i32) (arg2 : Memref sig .tc .vmem S1536x1024 .fp8e4m3)
    (arg3 : Memref sig .tc .vmem S1536x1 .f32) (arg4 : Memref sig .tc .vmem S512x1024 .fp8e4m3) (arg5 arg6 : Memref sig .tc .vmem S1x50688 .f32)
    (f1 : Bf (F := Ideal) c arg1) (f2 : Bf (F := Ideal) c arg2) (f3 : Bf (F := Ideal) c arg3) (f4 : Bf (F := Ideal) c arg4)
    (f5 : Bf (F := Ideal) c arg5) (f6 : Bf (F := Ideal) c arg6) : Prop where
  h1 : ∀ k : Fin 13, arg1.view.read (Elt Ideal) f1 (ix1 k) = cu (ix1 k)
  h2 : ∀ (r : Fin 1536) (k : Fin 1024), arg2.view.read (Elt Ideal) f2 (ix2 r k) = z (ix2 r k)
  h3 : ∀ (r : Fin 1536), arg3.view.read (Elt Ideal) f3 (ix2 r 0) = zs (ix2 r 0)
  h4 : ∀ (l : Fin 512) (k : Fin 1024) (h : 512 * (i 0).val + l.val < 50368),
      arg4.view.read (Elt Ideal) f4 (ix2 l k) = emb (ix2 (⟨512 * (i 0).val + l.val, h⟩ : Fin 50368) k)
  h5 : ∀ (n : Fin 50688) (h : n.val < 50368), arg5.view.read (Elt Ideal) f5 (ix2 0 n) = es (ix1 (⟨n.val, h⟩ : Fin 50368))
  h6 : ∀ (n : Fin 50688) (h : n.val < 50368), arg6.view.read (Elt Ideal) f6 (ix2 0 n) = bv (ix1 (⟨n.val, h⟩ : Fin 50368))

/-- What the scratch arrays hold after `n` points: the activations' and the means' columns of the `n` tiles, the rows' scales, the
    running maximum's resets, and the sums over the `n` tiles. -/
structure Scr (c : Dev nD) (n : ℕ) (arg13 : Memref sig .tc .vmem S16x50688 .f32) (arg14 : Memref sig .tc .vmem S1x50688 .f32)
    (arg16 : Memref sig .tc .vmem S1536x128 .f32) (arg17 : Memref sig .tc .vmem S1544x128 .f32)
    (arg18 : Memref sig .tc .vmem S16x512 .f32) (arg19 : Memref sig .tc .vmem S1x512 .f32)
    (f13 : Bf (F := Ideal) c arg13) (f14 : Bf (F := Ideal) c arg14) (f16 : Bf (F := Ideal) c arg16)
    (f17 : Bf (F := Ideal) c arg17) (f18 : Bf (F := Ideal) c arg18) (f19 : Bf (F := Ideal) c arg19) : Prop where
  a13 : ∀ (d : Fin 16) (k : Fin 50688), k.val < 512 * n → arg13.view.read (Elt Ideal) f13 (ix2 d k) = XP cu z zs emb es bv d.val k.val
  a14 : ∀ (k : Fin 50688), k.val < 512 * n → arg14.view.read (Elt Ideal) f14 (ix2 0 k) = colMean (XP cu z zs emb es bv) k.val
  a16 : n ≠ 0 → ∀ (r : Fin 1536) (l : Fin 128), arg16.view.read (Elt Ideal) f16 (ix2 r l) = zs (ix2 r 0)
  a17 : n ≠ 0 → ∀ (r : Fin 1544) (l : Fin 128), arg17.view.read (Elt Ideal) f17 (ix2 r l) = rst (cuN cu) 12 r
  a18 : n ≠ 0 → ∀ (d : Fin 16) (l : Fin 512), arg18.view.read (Elt Ideal) f18 (ix2 d l) = ∑ k ∈ Finset.range n, XP cu z zs emb es bv d.val (512 * k + l.val)
  a19 : n ≠ 0 → ∀ (l : Fin 512), arg19.view.read (Elt Ideal) f19 (ix2 0 l)
    = ∑ k ∈ Finset.range n, colMean (XP cu z zs emb es bv) (512 * k + l.val) * colMean (XP cu z zs emb es bv) (512 * k + l.val)

/-- What the six result buffers hold after the last point. -/
structure Outs (c : Dev nD) (arg7 : Memref sig .tc .vmem S12x50368 .f32) (arg8 : Memref sig .tc .vmem S1x12 .f32)
    (arg9 : Memref sig .tc .vmem S1x50368 .f32) (arg10 : Memref sig .tc .vmem S1x1 .f32) (arg11 : Memref sig .tc .vmem S12x50368 .i8)
    (arg12 : Memref sig .tc .vmem S1x12 .f32)
    (f7 : Bf (F := Ideal) c arg7) (f8 : Bf (F := Ideal) c arg8) (f9 : Bf (F := Ideal) c arg9)
    (f10 : Bf (F := Ideal) c arg10) (f11 : Bf (F := Ideal) c arg11) (f12 : Bf (F := Ideal) c arg12) : Prop where
  o7 : arg7.view.read (Elt Ideal) f7 = Cert.RefPoolIdeal.Value.G6 (F := Ideal) cu z zs emb es bv
  o8 : arg8.view.read (Elt Ideal) f8 = Cert.RefPoolIdeal.Value.G7 (F := Ideal) cu z zs emb es bv
  o9 : arg9.view.read (Elt Ideal) f9 = Cert.RefPoolIdeal.Value.G8 (F := Ideal) cu z zs emb es bv
  o10 : arg10.view.read (Elt Ideal) f10 = Cert.RefPoolIdeal.Value.G9 (F := Ideal) cu z zs emb es bv
  o11 : arg11.view.read (Elt Ideal) f11 = Cert.RefPoolIdeal.Value.G10 (F := Ideal) cu z zs emb es bv
  o12 : arg12.view.read (Elt Ideal) f12 = Cert.RefPoolIdeal.Value.G11 (F := Ideal) cu z zs emb es bv

section
variable (c : Dev nD) (i : grid0.Coords) (arg1 : Memref sig .tc .smem S13 .i32) (harg1 : arg1.IsWhole) (arg2 : Memref sig .tc .vmem S1536x1024 .fp8e4m3) (harg2 : arg2.IsWhole) (arg3 : Memref sig .tc .vmem S1536x1 .f32) (harg3 : arg3.IsWhole) (arg4 : Memref sig .tc .vmem S512x1024 .fp8e4m3) (harg4 : arg4.IsWhole) (arg5 : Memref sig .tc .vmem S1x50688 .f32) (harg5 : arg5.IsWhole) (arg6 : Memref sig .tc .vmem S1x50688 .f32) (harg6 : arg6.IsWhole) (arg7 : Memref sig .tc .vmem S12x50368 .f32) (harg7 : arg7.IsWhole) (arg8 : Memref sig .tc .vmem S1x12 .f32) (harg8 : arg8.IsWhole) (arg9 : Memref sig .tc .vmem S1x50368 .f32) (harg9 : arg9.IsWhole) (arg10 : Memref sig .tc .vmem S1x1 .f32) (harg10 : arg10.IsWhole) (arg11 : Memref sig .tc .vmem S12x50368 .i8) (harg11 : arg11.IsWhole) (arg12 : Memref sig .tc .vmem S1x12 .f32) (harg12 : arg12.IsWhole) (arg13 : Memref sig .tc .vmem S16x50688 .f32) (harg13 : arg13.IsWhole) (arg14 : Memref sig .tc .vmem S1x50688 .f32) (harg14 : arg14.IsWhole) (arg15 : Memref sig .tc .vmem S4x904x128 .f32) (harg15 : arg15.IsWhole) (arg16 : Memref sig .tc .vmem S1536x128 .f32) (harg16 : arg16.IsWhole) (arg17 : Memref sig .tc .vmem S1544x128 .f32) (harg17 : arg17.IsWhole) (arg18 : Memref sig .tc .vmem S16x512 .f32) (harg18 : arg18.IsWhole) (arg19 : Memref sig .tc .vmem S1x512 .f32) (harg19 : arg19.IsWhole)
    (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14) (f15 : Bf (F := Ideal) c arg15) (f16 : Bf (F := Ideal) c arg16) (f17 : Bf (F := Ideal) c arg17) (f18 : Bf (F := Ideal) c arg18) (f19 : Bf (F := Ideal) c arg19)
    (hcu : ∀ y, (arg1.view.read (Elt Ideal) f1 y : BitVec 32).toNat ≤ 896)
  (hstep : ∀ d : Fin 12, (cu (ix1 d.castSucc) : BitVec 32).toNat ≤ (cu (ix1 d.succ) : BitVec 32).toNat)
  (hle : ∀ y, (cu y : BitVec 32).toNat ≤ 896)
  (hin : Ins cu z zs emb es bv c i arg1 arg2 arg3 arg4 arg5 arg6 f1 f2 f3 f4 f5 f6)
  (hs : Scr cu z zs emb es bv c (i 0).val arg13 arg14 arg16 arg17 arg18 arg19 f13 f14 f16 f17 f18 f19)
include hin

theorem wn_eq : wn c arg1 f1 = cuN cu := by
  funext k
  unfold wn cuN
  split
  · exact congrArg BitVec.toNat (hin.h1 _)
  · rfl

include hs hstep

theorem tile_at (hE : ∀ j, j < 4 → ∀ a, k0_off13 i (BitVec.ofNat 32 (128 * j)) a + S1x128.size a ≤ S1x50688.size a) (d : Fin 16) (l : Fin 512) :
    tileV c i arg1 arg2 arg3 arg4 arg5 arg6 arg15 arg16 arg17 f1 f2 f3 f4 f5 f6 f15 f16 f17 hcu hE (ix2 d l) = XP cu z zs emb es bv d.val (512 * (i 0).val + l.val) :=
  tile_eq cu z zs emb es bv c i arg1 arg2 arg3 arg4 arg5 arg6 arg15 arg16 arg17 f1 f2 f3 f4 f5 f6 f15 f16 f17 hcu hE hstep hin.h1 hin.h2 hin.h3 hin.h4 hin.h5 hin.h6 hs.a16
    (fun h r l => by rw [wn_eq cu z zs emb es bv c i arg1 arg2 arg3 arg4 arg5 arg6 f1 f2 f3 f4 f5 f6 hin]; exact hs.a17 h r l) d l

/-- The scratch arrays after the point. -/
theorem point_scr : Scr cu z zs emb es bv c ((i 0).val + 1) arg13 arg14 arg16 arg17 arg18 arg19
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w13 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w14 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w16 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w17 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w18 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w19 := by
  have hE : ∀ j, j < 4 → ∀ a, k0_off13 i (BitVec.ofNat 32 (128 * j)) a + S1x128.size a ≤ S1x50688.size a := fun j hj => k0_off13_inb i ⟨j, hj⟩
  have hT := tile_at cu z zs emb es bv c i arg1 arg2 arg3 arg4 arg5 arg6 arg13 arg14 arg15 arg16 arg17 arg18 arg19 f1 f2 f3 f4 f5 f6 f13 f14 f15 f16 f17 f18 f19 hcu hstep hin hs hE
  rw [w13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE, w14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE, w16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu, w17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu, w18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE, w19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE]
  generalize tileV c i arg1 arg2 arg3 arg4 arg5 arg6 arg15 arg16 arg17 f1 f2 f3 f4 f5 f6 f15 f16 f17 hcu hE = T at hT
  refine ⟨fun d k hk => s13 c i arg13 T (XP cu z zs emb es bv) hT f13 hs.a13 d k hk, fun k hk => s14 c i arg14 T (XP cu z zs emb es bv) hT f14 hs.a14 k hk,
    fun _ r l => (B16_at c i arg3 arg16 f3 f16 (fun h r l => (hs.a16 (fun h' => h ((cond1_iff i).2 h')) r l).trans (hin.h3 r).symm) r l).trans (hin.h3 r),
    fun _ r l => ?_, fun _ d l => s18 c i arg18 T (XP cu z zs emb es bv) hT f18 hs.a18 _ d l, fun _ l => s19 c i arg19 T (XP cu z zs emb es bv) hT f19 hs.a19 _ l⟩
  have e := wn_eq cu z zs emb es bv c i arg1 arg2 arg3 arg4 arg5 arg6 f1 f2 f3 f4 f5 f6 hin
  rw [← e]
  exact B17_at c i arg1 arg17 f1 f17 hcu (fun h r l => by rw [e]; exact hs.a17 (fun h' => h ((cond1_iff i).2 h')) r l) r l

include hle

/-- The result buffers after the last point. -/
theorem point_out (hi : (i 0).val = 98) : Outs cu z zs emb es bv c arg7 arg8 arg9 arg10 arg11 arg12
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w7 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w8 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w9 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w10 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w11 (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu).1.w12 := by
  have hE : ∀ j, j < 4 → ∀ a, k0_off13 i (BitVec.ofNat 32 (128 * j)) a + S1x128.size a ≤ S1x50688.size a := fun j hj => k0_off13_inb i ⟨j, hj⟩
  have hT := tile_at cu z zs emb es bv c i arg1 arg2 arg3 arg4 arg5 arg6 arg13 arg14 arg15 arg16 arg17 arg18 arg19 f1 f2 f3 f4 f5 f6 f13 f14 f15 f16 f17 f18 f19 hcu hstep hin hs hE
  have hc := (cond2_iff i).2 hi
  rw [w7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE, w8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE, w9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE, w10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE, w11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE, w12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f1 f2 f3 f4 f5 f6 f7 f8 f9 f10 f11 f12 f13 f14 f15 f16 f17 f18 f19 hcu hE]
  generalize tileV c i arg1 arg2 arg3 arg4 arg5 arg6 arg15 arg16 arg17 f1 f2 f3 f4 f5 f6 f15 f16 f17 hcu hE = T at hT
  have e13 : R13 c i arg13 T f13 = G cu z zs emb es bv := out7 cu z zs emb es bv hle _ fun d n =>
    (readU _ _ _ _ (ix2 (⟨d.val, by omega⟩ : Fin 16) (⟨n.val, by omega⟩ : Fin 50688)) fun a => by
      fin_cases a <;> [show d.val = 0 + d.val; show n.val = 0 + n.val] <;> omega).trans
      (s13 c i arg13 T (XP cu z zs emb es bv) hT f13 hs.a13 _ _ (by show n.val < _; omega))
  have e14 : R14 c i arg14 T f14 = Cert.RefPoolIdeal.Value.G8 (F := Ideal) cu z zs emb es bv := out9 cu z zs emb es bv hle _ fun n =>
    (readU _ _ _ _ (ix2 (0 : Fin 1) (⟨n.val, by omega⟩ : Fin 50688)) fun a => by
      fin_cases a <;> [show 0 = 0 + 0; show n.val = 0 + n.val] <;> omega).trans
      (s14 c i arg14 T (XP cu z zs emb es bv) hT f14 hs.a14 _ (by show n.val < _; omega))
  have e18 : l1V (R18 c i arg18 T f18) = Cert.RefPoolIdeal.Value.G7 (F := Ideal) cu z zs emb es bv := out8 cu z zs emb es bv hle _ fun d l =>
    (readU _ _ _ _ (ix2 d l) fun a => by
      fin_cases a <;> [show d.val = 0 + d.val; show l.val = 0 + l.val] <;> omega).trans
      ((s18 c i arg18 T (XP cu z zs emb es bv) hT f18 hs.a18 _ d l).trans (by rw [hi]))
  have e19 : flV (R19 c i arg19 T f19) = Cert.RefPoolIdeal.Value.G9 (F := Ideal) cu z zs emb es bv := out10 cu z zs emb es bv hle _ fun l =>
    (readU _ _ _ _ (ix2 (0 : Fin 1) l) fun a => by
      fin_cases a <;> [show 0 = 0 + 0; show l.val = 0 + l.val] <;> omega).trans
      ((s19 c i arg19 T (XP cu z zs emb es bv) hT f19 hs.a19 _ l).trans (by rw [hi]))
  rw [if_pos hc, if_pos hc, if_pos hc, if_pos hc, if_pos hc, if_pos hc]
  refine ⟨?_, ?_, ?_, ?_, ?_, ?_⟩
  · exact (read_whole _ _ _ _).trans e13
  · exact (read_whole _ _ _ _).trans e18
  · exact (read_whole _ _ _ _).trans e14
  · exact (read_whole _ _ _ _).trans e19
  · refine (read_whole _ _ _ _).trans ?_
    rw [e13]; exact out11 cu z zs emb es bv
  · refine (read_whole _ _ _ _).trans ?_
    rw [e13]; exact out12 cu z zs emb es bv
end
end

end Cert.PoolIdeal.Model
-- ==== Proof.PoolBlocks.lean ====
/- What the pool's staged input blocks hold: the arguments themselves, but for the embedding rows, which come 512 at a time and end
   inside the last block, and for the column scales and biases, which come padded past the vocabulary. -/
module

public import proofs.«01_k».proof.Proof.PoolPoint
public import proofs.«01_k».proof.Proof.Gen.PoolIdeal.Points
public import proofs.«01_k».proof.Proof.Gen.PoolIdeal.Frame
public import Idealize.ShloMosaic.Lib.Pipeline.Frame
public import Idealize.ShloMosaic.Lib.Claim
public import Idealize.ShloMosaic.Lib.KernelVsHost

@[expose] public section

set_option maxRecDepth 16384

noncomputable section

namespace Cert.PoolIdeal.Track
open Cert.PoolIdeal Cert.PoolIdeal.Gen Cert.PoolIdeal.Body Cert.PoolIdeal.Model
open Idealize.ShloMosaic Idealize.ShloMosaic.TcCoe Idealize.SL.Sem
open Idealize.ShloMosaic.Tactic
open Idealize.ShloMosaic.Pipeline (Dat)

variable (m : (ℓ : Loc nD τ sig) → Buf (Elt Ideal) ℓ)

/-- The point's coordinate, and which block of the embedding it takes and how much of it lies inside the array. -/
theorem idx3 : ∀ t : Fin cfg0.N, (grid0.coords t 0).val = t.val ∧ win0_3.index t (0 : Fin 2) = t.val ∧ win0_3.index t (1 : Fin 2) = 0
    ∧ 512 * t.val + win0_3.xsize (grid0.coords t) (0 : Fin 2) = min (512 * (t.val + 1)) 50368
    ∧ win0_3.xsize (grid0.coords t) (1 : Fin 2) = 1024 := by
  decide +kernel

/-- The other windows take one block, the whole array. -/
theorem idx : ∀ t : Fin cfg0.N,
    win0_0.index t (0 : Fin 1) = 0
    ∧ (win0_1.index t (0 : Fin 2) = 0 ∧ win0_1.index t (1 : Fin 2) = 0)
    ∧ (win0_2.index t (0 : Fin 2) = 0 ∧ win0_2.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) := by
  decide +kernel

theorem emb0 (t : Fin cfg0.N) (y : S13.Idx) : ((cfg0.win 0).blk t).view.emb y = y := by
  have e0 := (idx t).1
  funext a; apply Fin.ext
  match a with
  | ⟨0, _⟩ => show win0_0.index t (0 : Fin 1) * 13 + 1 * (y 0).val = (y 0).val; omega

theorem emb1 (t : Fin cfg0.N) (y : S1536x1024.Idx) : ((cfg0.win 1).blk t).view.emb y = y := by
  obtain ⟨e0, e1⟩ := (idx t).2.1
  funext a; apply Fin.ext
  match a with
  | ⟨0, _⟩ => show win0_1.index t (0 : Fin 2) * 1536 + 1 * (y 0).val = (y 0).val; omega
  | ⟨1, _⟩ => show win0_1.index t (1 : Fin 2) * 1024 + 1 * (y 1).val = (y 1).val; omega

theorem emb2 (t : Fin cfg0.N) (y : S1536x1.Idx) : ((cfg0.win 2).blk t).view.emb y = y := by
  obtain ⟨e0, e1⟩ := (idx t).2.2.1
  funext a; apply Fin.ext
  match a with
  | ⟨0, _⟩ => show win0_2.index t (0 : Fin 2) * 1536 + 1 * (y 0).val = (y 0).val; omega
  | ⟨1, _⟩ => show win0_2.index t (1 : Fin 2) * 1 + 1 * (y 1).val = (y 1).val; omega

theorem emb4 (t : Fin cfg0.N) (y : S1x50688.Idx) : ((cfg0.win 4).blk t).view.emb y = y := by
  obtain ⟨e0, e1⟩ := (idx t).2.2.2.1
  funext a; apply Fin.ext
  match a with
  | ⟨0, _⟩ => show win0_4.index t (0 : Fin 2) * 1 + 1 * (y 0).val = (y 0).val; omega
  | ⟨1, _⟩ => show win0_4.index t (1 : Fin 2) * 50688 + 1 * (y 1).val = (y 1).val; omega

theorem emb5 (t : Fin cfg0.N) (y : S1x50688.Idx) : ((cfg0.win 5).blk t).view.emb y = y := by
  obtain ⟨e0, e1⟩ := (idx t).2.2.2.2.1
  funext a; apply Fin.ext
  match a with
  | ⟨0, _⟩ => show win0_5.index t (0 : Fin 2) * 1 + 1 * (y 0).val = (y 0).val; omega
  | ⟨1, _⟩ => show win0_5.index t (1 : Fin 2) * 50688 + 1 * (y 1).val = (y 1).val; omega

theorem emb6 (t : Fin cfg0.N) (y : S12x50368.Idx) : ((cfg0.win 6).blk t).view.emb y = y := by
  obtain ⟨e0, e1⟩ := (idx t).2.2.2.2.2.1
  funext a; apply Fin.ext
  match a with
  | ⟨0, _⟩ => show win0_6.index t (0 : Fin 2) * 12 + 1 * (y 0).val = (y 0).val; omega
  | ⟨1, _⟩ => show win0_6.index t (1 : Fin 2) * 50368 + 1 * (y 1).val = (y 1).val; omega

theorem emb7 (t : Fin cfg0.N) (y : S1x12.Idx) : ((cfg0.win 7).blk t).view.emb y = y := by
  obtain ⟨e0, e1⟩ := (idx t).2.2.2.2.2.2.1
  funext a; apply Fin.ext
  match a with
  | ⟨0, _⟩ => show win0_7.index t (0 : Fin 2) * 1 + 1 * (y 0).val = (y 0).val; omega
  | ⟨1, _⟩ => show win0_7.index t (1 : Fin 2) * 12 + 1 * (y 1).val = (y 1).val; omega

theorem emb8 (t : Fin cfg0.N) (y : S1x50368.Idx) : ((cfg0.win 8).blk t).view.emb y = y := by
  obtain ⟨e0, e1⟩ := (idx t).2.2.2.2.2.2.2.1
  funext a; apply Fin.ext
  match a with
  | ⟨0, _⟩ => show win0_8.index t (0 : Fin 2) * 1 + 1 * (y 0).val = (y 0).val; omega
  | ⟨1, _⟩ => show win0_8.index t (1 : Fin 2) * 50368 + 1 * (y 1).val = (y 1).val; omega

theorem emb9 (t : Fin cfg0.N) (y : S1x1.Idx) : ((cfg0.win 9).blk t).view.emb y = y := by
  obtain ⟨e0, e1⟩ := (idx t).2.2.2.2.2.2.2.2.1
  funext a; apply Fin.ext
  match a with
  | ⟨0, _⟩ => show win0_9.index t (0 : Fin 2) * 1 + 1 * (y 0).val = (y 0).val; omega
  | ⟨1, _⟩ => show win0_9.index t (1 : Fin 2) * 1 + 1 * (y 1).val = (y 1).val; omega

theorem emb10 (t : Fin cfg0.N) (y : S12x50368.Idx) : ((cfg0.win 10).blk t).view.emb y = y := by
  obtain ⟨e0, e1⟩ := (idx t).2.2.2.2.2.2.2.2.2.1
  funext a; apply Fin.ext
  match a with
  | ⟨0, _⟩ => show win0_10.index t (0 : Fin 2) * 12 + 1 * (y 0).val = (y 0).val; omega
  | ⟨1, _⟩ => show win0_10.index t (1 : Fin 2) * 50368 + 1 * (y 1).val = (y 1).val; omega

theorem emb11 (t : Fin cfg0.N) (y : S1x12.Idx) : ((cfg0.win 11).blk t).view.emb y = y := by
  obtain ⟨e0, e1⟩ := (idx t).2.2.2.2.2.2.2.2.2.2
  funext a; apply Fin.ext
  match a with
  | ⟨0, _⟩ => show win0_11.index t (0 : Fin 2) * 1 + 1 * (y 0).val = (y 0).val; omega
  | ⟨1, _⟩ => show win0_11.index t (1 : Fin 2) * 12 + 1 * (y 1).val = (y 1).val; omega

/-- The staged blocks, read. -/
theorem b0 (c : Dev nD) (t : Fin cfg0.N) : iblk m c 0 t = m ((c : Thread nD τ).loc main_arg0) := by
  funext y
  unfold iblk
  rw [View.read_apply, cast_eq]
  refine (congrArg _ (emb0 t _)).trans ?_
  exact congrFun (V_main_arg0 m c) _

theorem b1 (c : Dev nD) (t : Fin cfg0.N) : iblk m c 1 t = m ((c : Thread nD τ).loc main_arg1) := by
  funext y
  unfold iblk
  rw [View.read_apply, cast_eq]
  refine (congrArg _ (emb1 t _)).trans ?_
  exact congrFun (V_main_arg1 m c) _

theorem b2 (c : Dev nD) (t : Fin cfg0.N) : iblk m c 2 t = m ((c : Thread nD τ).loc main_arg2) := by
  funext y
  unfold iblk
  rw [View.read_apply, cast_eq]
  refine (congrArg _ (emb2 t _)).trans ?_
  exact congrFun (V_main_arg2 m c) _

/-- A staged block of the embedding, whatever lies past the array's end. -/
theorem b3 (c : Dev nD) (t : Fin cfg0.N) (d : S512x1024.Idx → Elt Ideal .fp8e4m3) (l : Fin 512) (k : Fin 1024) (h : 512 * t.val + l.val < 50368) :
    (cfg0.win 3).fill (grid0.coords t) d (iblk m c 3 t) (ix2 l k) = m ((c : Thread nD τ).loc main_arg3) (ix2 (⟨512 * t.val + l.val, h⟩ : Fin 50368) k) := by
  obtain ⟨e0, e1, e2, e3, e4⟩ := idx3 t
  have hm : (cfg0.win 3).moved (grid0.coords t) (ix2 l k) = true := ((cfg0.win 3).moved_iff _ _).2 fun a => by
    match a with
    | ⟨0, _⟩ => show l.val < win0_3.xsize (grid0.coords t) (0 : Fin 2); omega
    | ⟨1, _⟩ => show k.val < win0_3.xsize (grid0.coords t) (1 : Fin 2); omega
  unfold Pipeline.Window.fill
  rw [dif_pos hm]
  unfold iblk
  rw [View.read_apply, cast_eq]
  refine Eq.trans ?_ (congrFun (V_main_arg3 m c) _)
  refine congrArg (V m c main_arg3) (funext fun a => Fin.ext ?_)
  match a with
  | ⟨0, _⟩ => show win0_3.index t (0 : Fin 2) * 512 + 1 * l.val = 512 * t.val + l.val; omega
  | ⟨1, _⟩ => show win0_3.index t (1 : Fin 2) * 1024 + 1 * k.val = k.val; omega

/-- The host's paddings. -/
theorem v1_eq (c : Dev nD) : V m c main_v1 = pad S1x50688 ![0, 0] ![0, 320] ![0, 0]
    (shapeCast S1x50368 (m ((c : Thread nD τ).loc main_arg4)) shapeCasts_S50368_S1x50368 : FVec Ideal S1x50368 .f32)
    (sitofp .f32 (constantI S_ 32 0#32) : FVec Ideal S_ .f32) pads_S1x50368_S1x50688_000_03200 h_S_ := by
  sl_kernel_rfl

theorem v3_eq (c : Dev nD) : V m c main_v3 = pad S1x50688 ![0, 0] ![0, 320] ![0, 0]
    (shapeCast S1x50368 (m ((c : Thread nD τ).loc main_arg5)) shapeCasts_S50368_S1x50368 : FVec Ideal S1x50368 .f32)
    (sitofp .f32 (constantI S_ 32 0#32) : FVec Ideal S_ .f32) pads_S1x50368_S1x50688_000_03200 h_S_ := by
  sl_kernel_rfl

/-- A padded row inside the vocabulary. -/
theorem pad_at (x : FVec Ideal S50368 .f32) (v : FVec Ideal S_ .f32) (n : Fin 50688) (h : n.val < 50368) :
    pad S1x50688 ![0, 0] ![0, 320] ![0, 0] (shapeCast S1x50368 x shapeCasts_S50368_S1x50368 : FVec Ideal S1x50368 .f32) v
      pads_S1x50368_S1x50688_000_03200 h_S_ (ix2 0 n) = x (ix1 (⟨n.val, h⟩ : Fin 50368)) := by
  refine (pad_apply_of_inside _ _ _ _ _ _ _ _ (ix2 (0 : Fin 1) (⟨n.val, h⟩ : Fin 50368)) (fun a => by
    fin_cases a <;> [show 0 = 0 + 0 * 1; show n.val = 0 + n.val * 1] <;> omega)).trans ?_
  pointwise

theorem b4 (c : Dev nD) (t : Fin cfg0.N) (n : Fin 50688) (h : n.val < 50368) :
    iblk m c 4 t (ix2 0 n) = m ((c : Thread nD τ).loc main_arg4) (ix1 (⟨n.val, h⟩ : Fin 50368)) := by
  unfold iblk
  rw [View.read_apply, cast_eq]
  refine (congrArg _ (emb4 t _)).trans ?_
  exact (congrFun (v1_eq m c) _).trans (pad_at _ _ n h)

theorem b5 (c : Dev nD) (t : Fin cfg0.N) (n : Fin 50688) (h : n.val < 50368) :
    iblk m c 5 t (ix2 0 n) = m ((c : Thread nD τ).loc main_arg5) (ix1 (⟨n.val, h⟩ : Fin 50368)) := by
  unfold iblk
  rw [View.read_apply, cast_eq]
  refine (congrArg _ (emb5 t _)).trans ?_
  exact (congrFun (v3_eq m c) _).trans (pad_at _ _ n h)

end Cert.PoolIdeal.Track
-- ==== Proof.PoolTrack.lean ====
/- The pool over its whole grid: the scratch arrays carried from point to point hold what Proof/PoolPoint.lean says after that many
   points, so that the last point leaves the reference's results in the six result buffers. -/
module

public import proofs.«01_k».proof.Proof.PoolBlocks
public import proofs.«01_k».proof.Proof.PoolIdealFrame
public import Idealize.ShloMosaic.Lib.Pipeline.TableIdle

@[expose] public section

set_option maxRecDepth 16384

noncomputable section

namespace Cert.PoolIdeal.Track
open Cert.PoolIdeal Cert.PoolIdeal.Gen Cert.PoolIdeal.Body Cert.PoolIdeal.Model

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.PoolIdeal.Run (owns_pt defs₀_row)

local notation "𝕄" => MT nD τ sig Unit (Elt Ideal) ℕ (UR sig nD τ) ℕ

variable (m : (ℓ : Loc nD τ sig) → Buf (Elt Ideal) ℓ) (ρ : Dev nD → PrngReg)

/-- The scratch facts after `n` points, of device `c`'s argument arrays. -/
def Fact (c : Dev nD) (n : ℕ) (g13 : Bf (F := Ideal) c (Memref.whole cc0_scratch0)) (g14 : Bf (F := Ideal) c (Memref.whole cc0_scratch1))
    (g16 : Bf (F := Ideal) c (Memref.whole cc0_scratch3)) (g17 : Bf (F := Ideal) c (Memref.whole cc0_scratch4)) (g18 : Bf (F := Ideal) c (Memref.whole cc0_scratch5)) (g19 : Bf (F := Ideal) c (Memref.whole cc0_scratch6)) : Prop :=
  Scr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c n (Memref.whole cc0_scratch0) (Memref.whole cc0_scratch1) (Memref.whole cc0_scratch3) (Memref.whole cc0_scratch4) (Memref.whole cc0_scratch5) (Memref.whole cc0_scratch6) g13 g14 g16 g17 g18 g19

theorem fact_zero (c : Dev nD) (g13 g14 g16 g17 g18 g19) : Fact m c 0 g13 g14 g16 g17 g18 g19 :=
  ⟨fun d k h => absurd h (by omega), fun k h => absurd h (by omega), fun h => absurd rfl h, fun h => absurd rfl h, fun h => absurd rfl h, fun h => absurd rfl h⟩

/-- The scratch arrays between points. -/
def Inv (c : Dev nD) (n : ℕ) : sProp 𝕄 :=
  iprop((∃ g13 g14 g15 g16 g17 g18 g19, ⌜Fact m c n g13 g14 g16 g17 g18 g19⌝
    ∗ pt c (Memref.whole cc0_scratch0) g13 ∗ pt c (Memref.whole cc0_scratch1) g14 ∗ pt c (Memref.whole cc0_scratch2) g15 ∗ pt c (Memref.whole cc0_scratch3) g16 ∗ pt c (Memref.whole cc0_scratch4) g17 ∗ pt c (Memref.whole cc0_scratch5) g18 ∗ pt c (Memref.whole cc0_scratch6) g19)
    ∗ ∃ r, prngReg c r)

/-- Result 1 of the reference, of device `c`'s argument arrays. -/
def G6 (c : Dev nD) :=
  Cert.RefPoolIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- Result 2 of the reference, of device `c`'s argument arrays. -/
def G7 (c : Dev nD) :=
  Cert.RefPoolIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- Result 3 of the reference, of device `c`'s argument arrays. -/
def G8 (c : Dev nD) :=
  Cert.RefPoolIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- Result 4 of the reference, of device `c`'s argument arrays. -/
def G9 (c : Dev nD) :=
  Cert.RefPoolIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- Result 5 of the reference, of device `c`'s argument arrays. -/
def G10 (c : Dev nD) :=
  Cert.RefPoolIdeal.Value.G10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- Result 6 of the reference, of device `c`'s argument arrays. -/
def G11 (c : Dev nD) :=
  Cert.RefPoolIdeal.Value.G11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The proof data on core `c`: the inputs' blocks left in place, the results the reference's. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (cfg0.win 3).fill (grid0.coords t) (fun _ => (0 : EReal)) (iblk m c 3 t)
    | ⟨4, _⟩ => iblk m c 4 t
    | ⟨5, _⟩ => iblk m c 5 t
    | ⟨6, _⟩ => G6 m c
    | ⟨7, _⟩ => G7 m c
    | ⟨8, _⟩ => G8 m c
    | ⟨9, _⟩ => G9 m c
    | ⟨10, _⟩ => G10 m c
    | ⟨11, _⟩ => G11 m c
    | ⟨_ + 12, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

theorem after0_3 (c : Dev nD) (t : Fin cfg0.N) :
    (dats m 0 c).after 3 t = (cfg0.win 3).fill (grid0.coords t) (fun _ => (0 : EReal)) (iblk m c 3 t) := by dsimp only [dats]
theorem before0_3 (c : Dev nD) (t : Fin cfg0.N) (d) : (dats m 0 c).before 3 t d = (cfg0.win 3).fill (grid0.coords t) d (iblk m c 3 t) := by
  unfold Dat.before; rw [if_pos (fetch0_3 t)]; rfl

/-- A result's window is idle at every point but the last. -/
theorem idle_iff (t : Fin cfg0.N) : (!(k0_cond2 (grid0.coords t) == 1#1)) = true ↔ t.val ≠ 98 := by
  rw [Bool.not_eq_true', beq_eq_false_iff_ne, ne_eq, cond2_iff, (idx3 t).1]

section leave
variable (c : Dev nD) (w : Fin cfg0.W) (hfetch : ∀ t, (cfg0.win w).fetch t = false)
  (hidle : ∀ i : grid0.Coords, cfg0.idle w i = !(k0_cond2 i == 1#1)) (hflush : ∀ t : Fin cfg0.N, (cfg0.win w).flush t = true ↔ t.val % 99 = 98)
include hfetch hidle hflush

theorem flush_false (t : Fin cfg0.N) (h : t.val ≠ 98) : (cfg0.win w).flush t = false := by
  have hN : cfg0.N = 99 := N_0
  have := t.isLt
  refine Bool.eq_false_iff.2 fun h' => ?_
  have := (hflush t).1 h'
  omega

/-- What a result's buffer holds before the point is what it held at the start. -/
theorem before_out (t : Fin cfg0.N) (d) : (dats m 0 c).before w t d = d := by
  have hN : cfg0.N = 99 := N_0
  have ht := t.isLt
  rw [Pipeline.Dat.before_idle_run (dats m 0 c) w hfetch d t.val t le_rfl (fun j _ h2 =>
    ⟨(hidle _).trans ((idle_iff j).2 (by omega)), flush_false w hfetch hidle hflush j (by omega)⟩)]
  unfold Dat.before
  rw [if_neg (by rw [hfetch]; exact Bool.false_ne_true), if_pos (Nat.sub_self _)]

/-- A result's buffer handed back: anything before the last point, the result at it. -/
theorem leave (hloose : cfg0.loose w = false) (t : Fin cfg0.N) (X) (hX : t.val = 98 → X = (dats m 0 c).after w t) :
    (owns (c : Thread nD τ) ((cfg0.win w).stage (cfg0.slots t w)) fullShare X : sProp 𝕄) ⊢ (dats m 0 c).leaves w t := by
  have hi : cfg0.idle w (cfg0.grid.coords t) = !(k0_cond2 (grid0.coords t) == 1#1) := hidle _
  unfold Dat.leaves
  by_cases h : t.val = 98
  · have hi' : cfg0.idle w (cfg0.grid.coords t) = false := by
      rw [hi]; exact Bool.eq_false_iff.2 fun h' => (idle_iff t).1 h' h
    rw [hi', hloose, hX h]
  · rw [hi, (idle_iff t).2 h, flush_false w hfetch hidle hflush t h]
    dsimp only
    iintro H
    iexists X
    rw [before_out m c w hfetch hidle hflush]
    iexact H
end leave

theorem after0_6 (c : Dev nD) (t : Fin cfg0.N) : (dats m 0 c).after 6 t = G6 m c := by dsimp only [dats]
theorem leave6 (c : Dev nD) (t : Fin cfg0.N) (f : Bf (F := Ideal) c (st0_6 t)) (hf : t.val = 98 → (st0_6 t).view.read (Elt Ideal) f = G6 m c) :
    (pt c (st0_6 t) f : sProp 𝕄) ⊢ (dats m 0 c).leaves 6 t := by
  refine BIBase.Entails.trans ?_ (leave m c 6 (fun _ => rfl) (fun _ => rfl) flush0_6 rfl t ((st0_6 t).view.read (Elt Ideal) f) (fun h => (hf h).trans (after0_6 m c t).symm))
  rw [owns_pt c (st0_6 t) (hstage0_6 ((cfg0.slots t 6).cast nbuf0_6))]
  iintro H; iexists f; isplitr; · ipureintro; rfl
  iexact H
theorem after0_7 (c : Dev nD) (t : Fin cfg0.N) : (dats m 0 c).after 7 t = G7 m c := by dsimp only [dats]
theorem leave7 (c : Dev nD) (t : Fin cfg0.N) (f : Bf (F := Ideal) c (st0_7 t)) (hf : t.val = 98 → (st0_7 t).view.read (Elt Ideal) f = G7 m c) :
    (pt c (st0_7 t) f : sProp 𝕄) ⊢ (dats m 0 c).leaves 7 t := by
  refine BIBase.Entails.trans ?_ (leave m c 7 (fun _ => rfl) (fun _ => rfl) flush0_7 rfl t ((st0_7 t).view.read (Elt Ideal) f) (fun h => (hf h).trans (after0_7 m c t).symm))
  rw [owns_pt c (st0_7 t) (hstage0_7 ((cfg0.slots t 7).cast nbuf0_7))]
  iintro H; iexists f; isplitr; · ipureintro; rfl
  iexact H
theorem after0_8 (c : Dev nD) (t : Fin cfg0.N) : (dats m 0 c).after 8 t = G8 m c := by dsimp only [dats]
theorem leave8 (c : Dev nD) (t : Fin cfg0.N) (f : Bf (F := Ideal) c (st0_8 t)) (hf : t.val = 98 → (st0_8 t).view.read (Elt Ideal) f = G8 m c) :
    (pt c (st0_8 t) f : sProp 𝕄) ⊢ (dats m 0 c).leaves 8 t := by
  refine BIBase.Entails.trans ?_ (leave m c 8 (fun _ => rfl) (fun _ => rfl) flush0_8 rfl t ((st0_8 t).view.read (Elt Ideal) f) (fun h => (hf h).trans (after0_8 m c t).symm))
  rw [owns_pt c (st0_8 t) (hstage0_8 ((cfg0.slots t 8).cast nbuf0_8))]
  iintro H; iexists f; isplitr; · ipureintro; rfl
  iexact H
theorem after0_9 (c : Dev nD) (t : Fin cfg0.N) : (dats m 0 c).after 9 t = G9 m c := by dsimp only [dats]
theorem leave9 (c : Dev nD) (t : Fin cfg0.N) (f : Bf (F := Ideal) c (st0_9 t)) (hf : t.val = 98 → (st0_9 t).view.read (Elt Ideal) f = G9 m c) :
    (pt c (st0_9 t) f : sProp 𝕄) ⊢ (dats m 0 c).leaves 9 t := by
  refine BIBase.Entails.trans ?_ (leave m c 9 (fun _ => rfl) (fun _ => rfl) flush0_9 rfl t ((st0_9 t).view.read (Elt Ideal) f) (fun h => (hf h).trans (after0_9 m c t).symm))
  rw [owns_pt c (st0_9 t) (hstage0_9 ((cfg0.slots t 9).cast nbuf0_9))]
  iintro H; iexists f; isplitr; · ipureintro; rfl
  iexact H
theorem after0_10 (c : Dev nD) (t : Fin cfg0.N) : (dats m 0 c).after 10 t = G10 m c := by dsimp only [dats]
theorem leave10 (c : Dev nD) (t : Fin cfg0.N) (f : Bf (F := Ideal) c (st0_10 t)) (hf : t.val = 98 → (st0_10 t).view.read (Elt Ideal) f = G10 m c) :
    (pt c (st0_10 t) f : sProp 𝕄) ⊢ (dats m 0 c).leaves 10 t := by
  refine BIBase.Entails.trans ?_ (leave m c 10 (fun _ => rfl) (fun _ => rfl) flush0_10 rfl t ((st0_10 t).view.read (Elt Ideal) f) (fun h => (hf h).trans (after0_10 m c t).symm))
  rw [owns_pt c (st0_10 t) (hstage0_10 ((cfg0.slots t 10).cast nbuf0_10))]
  iintro H; iexists f; isplitr; · ipureintro; rfl
  iexact H
theorem after0_11 (c : Dev nD) (t : Fin cfg0.N) : (dats m 0 c).after 11 t = G11 m c := by dsimp only [dats]
theorem leave11 (c : Dev nD) (t : Fin cfg0.N) (f : Bf (F := Ideal) c (st0_11 t)) (hf : t.val = 98 → (st0_11 t).view.read (Elt Ideal) f = G11 m c) :
    (pt c (st0_11 t) f : sProp 𝕄) ⊢ (dats m 0 c).leaves 11 t := by
  refine BIBase.Entails.trans ?_ (leave m c 11 (fun _ => rfl) (fun _ => rfl) flush0_11 rfl t ((st0_11 t).view.read (Elt Ideal) f) (fun h => (hf h).trans (after0_11 m c t).symm))
  rw [owns_pt c (st0_11 t) (hstage0_11 ((cfg0.slots t 11).cast nbuf0_11))]
  iintro H; iexists f; isplitr; · ipureintro; rfl
  iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t)

variable (hle : ∀ (c : Dev nD) y, (m ((c : Thread nD τ).loc main_arg0) y : BitVec 32).toNat ≤ 896)
  (hstep : ∀ (c : Dev nD) (d : Fin 12), (m ((c : Thread nD τ).loc main_arg0) (ix1 d.castSucc) : BitVec 32).toNat
    ≤ (m ((c : Thread nD τ).loc main_arg0) (ix1 d.succ) : BitVec 32).toNat)
include hle hstep

set_option maxHeartbeats 4000000 in
/-- The body at a point, by its run. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = Inv m c (t.val + 1) from rfl,
    show (dats m 0 c).owesAt () t.succ = (dats m 0 c).owesAt () t.castSucc from rfl,
    show (dats m 0 c).Φ t.castSucc = Inv m c t.val from rfl, after0_0, after0_1, after0_2, after0_3, after0_4, after0_5, (cfg0.win 3).cut_fill]
  unfold Inv
  simp only [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4)), owns_pt c (st0_5 t) (hstage0_5 ((cfg0.slots t 5).cast nbuf0_5)), owns_pt c (st0_6 t) (hstage0_6 ((cfg0.slots t 6).cast nbuf0_6)), owns_pt c (st0_7 t) (hstage0_7 ((cfg0.slots t 7).cast nbuf0_7)), owns_pt c (st0_8 t) (hstage0_8 ((cfg0.slots t 8).cast nbuf0_8)), owns_pt c (st0_9 t) (hstage0_9 ((cfg0.slots t 9).cast nbuf0_9)), owns_pt c (st0_10 t) (hstage0_10 ((cfg0.slots t 10).cast nbuf0_10)), owns_pt c (st0_11 t) (hstage0_11 ((cfg0.slots t 11).cast nbuf0_11))]
  iintro ⟨⟨⟨%g13, %g14, %g15, %g16, %g17, %g18, %g19, %hs, S13, S14, S15, S16, S17, S18, S19⟩, Hg⟩, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, %hf6, H6⟩, ⟨%d6, %f7, -, H7⟩, ⟨%d7, %f8, -, H8⟩, ⟨%d8, %f9, -, H9⟩, ⟨%d9, %f10, -, H10⟩, ⟨%d10, %f11, -, H11⟩, ⟨%d11, %f12, -, H12⟩⟩
  have hi : (grid0.coords t 0).val = t.val := (idx3 t).1
  have hcu : ∀ y, ((st0_0 t).view.read (Elt Ideal) f1 y : BitVec 32).toNat ≤ 896 := fun y => by rw [hf1, b0]; exact hle c y
  have hin : Ins (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c (grid0.coords t) (st0_0 t) (st0_1 t) (st0_2 t) (st0_3 t) (st0_4 t) (st0_5 t) f1 f2 f3 f4 f5 f6 :=
    ⟨fun k => by rw [hf1, b0], fun r k => by rw [hf2, b1], fun r => by rw [hf3, b2],
      fun l k h => by
        have h' : 512 * t.val + l.val < 50368 := by omega
        rw [hf4]
        refine (b3 m c t d3 l k h').trans (congrArg (fun n => m ((c : Thread nD τ).loc main_arg3) (ix2 n k)) (Fin.ext ?_))
        show 512 * t.val + l.val = 512 * (grid0.coords t 0).val + l.val
        omega,
      fun n h => by rw [hf5]; exact b4 m c t n h, fun n h => by rw [hf6]; exact b5 m c t n h⟩
  have hs' : Fact m c (grid0.coords t 0).val g13 g14 g16 g17 g18 g19 := hi.symm ▸ hs
  have hsc : Fact m c (t.val + 1) _ _ _ _ _ _ := hi ▸ (point_scr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 f11 f12 g13 g14 g15 g16 g17 g18 g19 hcu (hstep c) hin hs')
  have ho : t.val = 98 → _ := fun h => point_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 f11 f12 g13 g14 g15 g16 g17 g18 g19 hcu (hstep c) (hle c) hin hs' (hi.trans h)
  iapply ((bodyRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 f11 f12 g13 g14 g15 g16 g17 g18 g19 hcu).2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S13]; · iexact S13
  isplitl [S14]; · iexact S14
  isplitl [S15]; · iexact S15
  isplitl [S16]; · iexact S16
  isplitl [S17]; · iexact S17
  isplitl [S18]; · iexact S18
  isplitl [S19]; · iexact S19
  iintro ⟨H1, H2, H3, H4, H5, H6, H7, H8, H9, H10, H11, H12, S13, S14, S15, S16, S17, S18, S19⟩
  isplitl [S13 S14 S15 S16 S17 S18 S19 Hg]
  · isplitl [S13 S14 S15 S16 S17 S18 S19]
    · iexists _, _, _, _, _, _, _
      isplitr; · ipureintro; exact hsc
      isplitl [S13]; · iexact S13
      isplitl [S14]; · iexact S14
      isplitl [S15]; · iexact S15
      isplitl [S16]; · iexact S16
      isplitl [S17]; · iexact S17
      isplitl [S18]; · iexact S18
      iexact S19
    · iexact Hg
  isplitl [Ho]; · iexact Ho
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists d3, f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iapply (leave6 m c t _ (fun h => (ho h).o7)); iexact H7
  isplitl [H8]
  · iapply (leave7 m c t _ (fun h => (ho h).o8)); iexact H8
  isplitl [H9]
  · iapply (leave8 m c t _ (fun h => (ho h).o9)); iexact H9
  isplitl [H10]
  · iapply (leave9 m c t _ (fun h => (ho h).o10)); iexact H10
  isplitl [H11]
  · iapply (leave10 m c t _ (fun h => (ho h).o11)); iexact H11
  iapply (leave11 m c t _ (fun h => (ho h).o12)); iexact H12

theorem body_obligation (c : Dev nD) : BodyObligationLoose (dats m 0 c) (defs₀ (F := Ideal)) Variants.none () Set.univ := fun t => by
  rw [bigSep_W0, bigSep_W0, defs₀_row]
  exact triple_restated (sound_body m hle hstep c t) rfl .rfl fun _ => .rfl

omit hle hstep in
theorem inv_in (c : Dev nD) : (Pipeline.ΦA spec0 c : sProp 𝕄) ⊢ (dats m 0 c).Φ 0 := by
  rw [show (dats m 0 c).Φ 0 = Inv m c 0 from rfl]
  unfold Pipeline.ΦA Inv
  rw [scopedRest0_eq]
  iintro ⟨⟨⟨%g13, S13⟩, ⟨%g14, S14⟩, ⟨%g15, S15⟩, ⟨%g16, S16⟩, ⟨%g17, S17⟩, ⟨%g18, S18⟩, ⟨%g19, S19⟩⟩, Hg⟩
  isplitl [S13 S14 S15 S16 S17 S18 S19]
  · iexists g13, g14, g15, g16, g17, g18, g19
    isplitr; · ipureintro; exact fact_zero m c _ _ _ _ _ _
    isplitl [S13]; · iexact S13
    isplitl [S14]; · iexact S14
    isplitl [S15]; · iexact S15
    isplitl [S16]; · iexact S16
    isplitl [S17]; · iexact S17
    isplitl [S18]; · iexact S18
    iexact S19
  · iexact Hg

omit hle hstep in
theorem inv_out (c : Dev nD) : (dats m 0 c).Φ (Fin.last cfg0.N) ⊢ (Pipeline.ΦA spec0 c : sProp 𝕄) := by
  rw [show (dats m 0 c).Φ (Fin.last cfg0.N) = Inv m c cfg0.N from rfl]
  unfold Pipeline.ΦA Inv
  rw [scopedRest0_eq]
  iintro ⟨⟨%g13, %g14, %g15, %g16, %g17, %g18, %g19, -, S13, S14, S15, S16, S17, S18, S19⟩, Hg⟩
  isplitl [S13 S14 S15 S16 S17 S18 S19]
  · isplitl [S13]; · iexists g13; iexact S13
    isplitl [S14]; · iexists g14; iexact S14
    isplitl [S15]; · iexists g15; iexact S15
    isplitl [S16]; · iexists g16; iexact S16
    isplitl [S17]; · iexists g17; iexact S17
    isplitl [S18]; · iexists g18; iexact S18
    iexists g19; iexact S19
  · iexact Hg

set_option backward.isDefEq.respectTransparency.types false in
/-- Every execution terminates, at a state where each array is what the proof data says. -/
theorem run_main :
    θ_run defs (onTc (τ := τ) (main (F := Ideal))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m hle hstep) (hshare := fun c => (dats m 0 c).share_full fun _ => rfl)
    (howed := fun _ _ => rfl) (V := V m) (hmain := hmain m Variants.none) (hA := A_eq m) (hin := inv_in m) (hout := inv_out m)

omit hle hstep
/-- The last point. -/
def lastPt : Fin cfg0.N := ⟨98, by rw [show cfg0.N = 99 from N_0]; omega⟩

/-- An array of result 1 that every point's buffer holds is what its array ends with. -/
theorem arr6 (c : Dev nD) (X) (hX : ∀ t, (dats m 0 c).after 6 t = X) : (dats m 0 c).arrAt 6 cfg0.N = X :=
  (dats m 0 c).arrAt_eq_of_cover 6 X
    (fun t _ => by
      show (cfg0.win 6).cut (grid0.coords t) ((dats m 0 c).after 6 t) = _
      rw [hX]
      funext j
      show X j = X (((cfg0.win 6).blk t).view.emb j)
      rw [emb6])
    (fun i => ⟨lastPt, (flush0_6 _).2 rfl, by
      have h := ((cfg0.win 6).blk lastPt).view.emb_mem_set i; rwa [emb6] at h⟩)

/-- Result 1's array after the run. -/
theorem final6 (c : Dev nD) : (dats m 0 c).arrAt 6 cfg0.N = G6 m c := arr6 m c _ (after0_6 m c)

/-- An array of result 2 that every point's buffer holds is what its array ends with. -/
theorem arr7 (c : Dev nD) (X) (hX : ∀ t, (dats m 0 c).after 7 t = X) : (dats m 0 c).arrAt 7 cfg0.N = X :=
  (dats m 0 c).arrAt_eq_of_cover 7 X
    (fun t _ => by
      show (cfg0.win 7).cut (grid0.coords t) ((dats m 0 c).after 7 t) = _
      rw [hX]
      funext j
      show X j = X (((cfg0.win 7).blk t).view.emb j)
      rw [emb7])
    (fun i => ⟨lastPt, (flush0_7 _).2 rfl, by
      have h := ((cfg0.win 7).blk lastPt).view.emb_mem_set i; rwa [emb7] at h⟩)

/-- Result 2's array after the run. -/
theorem final7 (c : Dev nD) : (dats m 0 c).arrAt 7 cfg0.N = G7 m c := arr7 m c _ (after0_7 m c)

/-- An array of result 3 that every point's buffer holds is what its array ends with. -/
theorem arr8 (c : Dev nD) (X) (hX : ∀ t, (dats m 0 c).after 8 t = X) : (dats m 0 c).arrAt 8 cfg0.N = X :=
  (dats m 0 c).arrAt_eq_of_cover 8 X
    (fun t _ => by
      show (cfg0.win 8).cut (grid0.coords t) ((dats m 0 c).after 8 t) = _
      rw [hX]
      funext j
      show X j = X (((cfg0.win 8).blk t).view.emb j)
      rw [emb8])
    (fun i => ⟨lastPt, (flush0_8 _).2 rfl, by
      have h := ((cfg0.win 8).blk lastPt).view.emb_mem_set i; rwa [emb8] at h⟩)

/-- Result 3's array after the run. -/
theorem final8 (c : Dev nD) : (dats m 0 c).arrAt 8 cfg0.N = G8 m c := arr8 m c _ (after0_8 m c)

/-- An array of result 4 that every point's buffer holds is what its array ends with. -/
theorem arr9 (c : Dev nD) (X) (hX : ∀ t, (dats m 0 c).after 9 t = X) : (dats m 0 c).arrAt 9 cfg0.N = X :=
  (dats m 0 c).arrAt_eq_of_cover 9 X
    (fun t _ => by
      show (cfg0.win 9).cut (grid0.coords t) ((dats m 0 c).after 9 t) = _
      rw [hX]
      funext j
      show X j = X (((cfg0.win 9).blk t).view.emb j)
      rw [emb9])
    (fun i => ⟨lastPt, (flush0_9 _).2 rfl, by
      have h := ((cfg0.win 9).blk lastPt).view.emb_mem_set i; rwa [emb9] at h⟩)

/-- Result 4's array after the run. -/
theorem final9 (c : Dev nD) : (dats m 0 c).arrAt 9 cfg0.N = G9 m c := arr9 m c _ (after0_9 m c)

/-- An array of result 5 that every point's buffer holds is what its array ends with. -/
theorem arr10 (c : Dev nD) (X) (hX : ∀ t, (dats m 0 c).after 10 t = X) : (dats m 0 c).arrAt 10 cfg0.N = X :=
  (dats m 0 c).arrAt_eq_of_cover 10 X
    (fun t _ => by
      show (cfg0.win 10).cut (grid0.coords t) ((dats m 0 c).after 10 t) = _
      rw [hX]
      funext j
      show X j = X (((cfg0.win 10).blk t).view.emb j)
      rw [emb10])
    (fun i => ⟨lastPt, (flush0_10 _).2 rfl, by
      have h := ((cfg0.win 10).blk lastPt).view.emb_mem_set i; rwa [emb10] at h⟩)

/-- Result 5's array after the run. -/
theorem final10 (c : Dev nD) : (dats m 0 c).arrAt 10 cfg0.N = G10 m c := arr10 m c _ (after0_10 m c)

/-- An array of result 6 that every point's buffer holds is what its array ends with. -/
theorem arr11 (c : Dev nD) (X) (hX : ∀ t, (dats m 0 c).after 11 t = X) : (dats m 0 c).arrAt 11 cfg0.N = X :=
  (dats m 0 c).arrAt_eq_of_cover 11 X
    (fun t _ => by
      show (cfg0.win 11).cut (grid0.coords t) ((dats m 0 c).after 11 t) = _
      rw [hX]
      funext j
      show X j = X (((cfg0.win 11).blk t).view.emb j)
      rw [emb11])
    (fun i => ⟨lastPt, (flush0_11 _).2 rfl, by
      have h := ((cfg0.win 11).blk lastPt).view.emb_mem_set i; rwa [emb11] at h⟩)

/-- Result 6's array after the run. -/
theorem final11 (c : Dev nD) : (dats m 0 c).arrAt 11 cfg0.N = G11 m c := arr11 m c _ (after0_11 m c)

end Cert.PoolIdeal.Track
-- ==== Proof.PoolValue.lean ====
/- Kernel against reference, the pool: all six results. -/
module

public import proofs.«01_k».proof.Defs
public import proofs.«01_k».proof.Proof.PoolTrack
public import proofs.«01_k».proof.Proof.Packed

@[expose] public section

set_option maxRecDepth 16384

noncomputable section

namespace Cert.PoolValue

open Idealize.ShloMosaic Idealize.SL.Sem
open Cert.PoolIdeal Cert.PoolIdeal.Gen Cert.PoolIdeal.Track
open Idealize.ShloMosaic.TcCoe

/-- The tiled pool ends with the reference's six results, and its arguments unchanged. -/
theorem run (m : (ℓ : Loc nD τ sig) → Buf (Elt Ideal) ℓ) (ρ : Dev nD → PrngReg)
    (hle : ∀ (c : Dev nD) y, (m ((c : Thread nD τ).loc main_arg0) y : BitVec 32).toNat ≤ 896)
    (hstep : ∀ (c : Dev nD) (d : Fin 12), (m ((c : Thread nD τ).loc main_arg0) (ix1 d.castSucc) : BitVec 32).toNat
      ≤ (m ((c : Thread nD τ).loc main_arg0) (ix1 d.succ) : BitVec 32).toNat) :
    θ_run (defs (F := Ideal)) (onTc (τ := τ) (main (F := Ideal))) ⟨m, fun _ => 0, ρ⟩ (fun r => ∀ c : Dev nD,
      r.2.mem ((c.tc : Thread nD τ).loc main_v4_0) = G6 m c
      ∧ r.2.mem ((c.tc : Thread nD τ).loc main_v4_1) = G7 m c
      ∧ r.2.mem ((c.tc : Thread nD τ).loc main_v4_2) = G8 m c
      ∧ r.2.mem ((c.tc : Thread nD τ).loc main_v4_3) = G9 m c
      ∧ r.2.mem ((c.tc : Thread nD τ).loc main_v4_4) = G10 m c
      ∧ r.2.mem ((c.tc : Thread nD τ).loc main_v4_5) = G11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h.1 c).1 6).trans (final6 m c), ((h.1 c).1 7).trans (final7 m c), ((h.1 c).1 8).trans (final8 m c),
      ((h.1 c).1 9).trans (final9 m c), ((h.1 c).1 10).trans (final10 m c), ((h.1 c).1 11).trans (final11 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ hle hstep)

/-- Over the extended reals the tiled pool and the whole-array reference end with the same representations, l1 norms, mean
    activations, flops, impact codes and impact scales. -/
theorem algebraic : Cert.algebraic_PoolIdeal_RefPoolIdeal := by
  intro m g m' g' hpre hag
  refine ⟨fun c => G6 m c, fun c => G7 m c, fun c => G8 m c, fun c => G9 m c, fun c => G10 m c, fun c => G11 m c, ?_, ?_⟩
  · exact run m g (fun c y => Cert.Packed.le (hpre c) y) (fun c d => (Cert.Packed.step (hpre c) d).1)
  · refine (θ_run _ _ _).mono (fun r h c => ?_) (Cert.RefPoolIdeal.Value.run m' g')
    obtain ⟨h6, h7, h8, h9, h10, h11, hk⟩ := h c
    obtain ⟨e0, e1, e2, e3, e4, e5⟩ := hag c
    rw [e0, e1, e2, e3, e4, e5] at h6 h7 h8 h9 h10 h11
    exact ⟨h6, h7, h8, h9, h10, h11, hk⟩

end Cert.PoolValue
-- ==== Proof.lean ====
module

public import proofs.«01_k».proof.Defs
public import proofs.«01_k».proof.Proof.Gen.Transform
public import proofs.«01_k».proof.Proof.Gen.Transform.Skeleton
public import proofs.«01_k».proof.Proof.Gen.Transform.Launch
public import proofs.«01_k».proof.Proof.Gen.Transform.Points
public import proofs.«01_k».proof.Proof.Gen.Transform.Frame
public import proofs.«01_k».proof.Proof.Gen.TransformIdeal
public import proofs.«01_k».proof.Proof.Gen.TransformIdeal.Skeleton
public import proofs.«01_k».proof.Proof.Gen.TransformIdeal.Launch
public import proofs.«01_k».proof.Proof.Gen.TransformIdeal.Points
public import proofs.«01_k».proof.Proof.Gen.TransformIdeal.Frame
public import proofs.«01_k».proof.Proof.Gen.RefTransformIdeal
public import proofs.«01_k».proof.Proof.Gen.RefTransformIdeal.Skeleton
public import proofs.«01_k».proof.Proof.Gen.RefTransformIdeal.Launch
public import proofs.«01_k».proof.Proof.Gen.RefTransformIdeal.Points
public import proofs.«01_k».proof.Proof.Gen.RefTransformIdeal.Frame
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.RefPoolIdeal
public import proofs.«01_k».proof.Proof.Gen.RefPoolIdeal.Skeleton
public import proofs.«01_k».proof.Proof.Gen.RefPoolIdeal.Launch
public import proofs.«01_k».proof.Proof.Gen.RefPoolIdeal.Points
public import proofs.«01_k».proof.Proof.Gen.RefPoolIdeal.Frame
public import proofs.«01_k».proof.Proof.Gen.Pre_docs_packed
public import proofs.«01_k».proof.Proof.Gen.RefPoolIdeal.Value
public import proofs.«01_k».proof.Proof.Gen.TransformIdeal.Value
public import proofs.«01_k».proof.Proof.Gen.RefTransformIdeal.Value
public import proofs.«01_k».proof.Proof.TransformValue
public import proofs.«01_k».proof.Proof.PoolFrame
public import proofs.«01_k».proof.Proof.PoolIdealFrame
public import proofs.«01_k».proof.Proof.Packed
public import proofs.«01_k».proof.Proof.PoolValue
public import Idealize.ShloMosaic.Adequacy
public import Idealize.ShloMosaic.Init

@[expose] public section

noncomputable section

namespace Cert.Proof

open Idealize.ShloMosaic Idealize.SL.Sem Cert.Transform

theorem claim : Cert.Claim := ⟨Cert.Transform.Gen.facts, Cert.TransformIdeal.Gen.facts, Cert.RefTransformIdeal.Gen.facts, Cert.Pool.Gen.facts, Cert.PoolIdeal.Gen.facts, Cert.RefPoolIdeal.Gen.facts, Cert.Pre_docs_packed.Gen.facts, by
  exact ⟨fun m ρ _ => Cert.Transform.Gen.frame m ρ, fun m ρ _ => Cert.TransformIdeal.Gen.frame m ρ,
    fun m ρ _ => Cert.RefTransformIdeal.Gen.frame m ρ,
    fun m ρ h => Cert.Pool.Run.frame m ρ fun c y => Cert.Packed.le (h c) y,
    fun m ρ h => Cert.PoolIdeal.Run.frame m ρ fun c y => Cert.Packed.le (h c) y,
    fun m ρ _ => Cert.RefPoolIdeal.Gen.frame m ρ,
    fun m ρ _ => Cert.RefPoolIdeal.Gen.frame m ρ,
    trivial, Cert.TransformValue.algebraic,
    IdealRules.named_const.statement Cert.PoolIdeal.κ "inv_n" .f32 0x3DAAAAAB#32 ((1 / 12 : ℝ) : EReal) rfl,
    Cert.PoolValue.algebraic⟩⟩

end Cert.Proof

end
